-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x4736 : Shape := ⟨3, ![3, 1024, 4736]⟩
abbrev S4736x3584 : Shape := ⟨2, ![4736, 3584]⟩
abbrev S37x28 : Shape := ⟨2, ![37, 28]⟩
abbrev S3072x4736 : Shape := ⟨2, ![3072, 4736]⟩
abbrev S3072x1792 : Shape := ⟨2, ![3072, 1792]⟩
abbrev S3072x14 : Shape := ⟨2, ![3072, 14]⟩
abbrev S3072x37 : Shape := ⟨2, ![3072, 37]⟩
abbrev S256x4736 : Shape := ⟨2, ![256, 4736]⟩
abbrev S256x1792 : Shape := ⟨2, ![256, 1792]⟩
abbrev S256x14 : Shape := ⟨2, ![256, 14]⟩
abbrev S256x37 : Shape := ⟨2, ![256, 37]⟩
abbrev S2x4736x256 : Shape := ⟨3, ![2, 4736, 256]⟩
abbrev S2 : Shape := ⟨1, ![2]⟩
abbrev S1 : Shape := ⟨1, ![1]⟩
abbrev S_ : Shape := ⟨0, ![]⟩
abbrev S1x4736x256 : Shape := ⟨3, ![1, 4736, 256]⟩
abbrev S4736x256 : Shape := ⟨2, ![4736, 256]⟩
abbrev S1x1 : Shape := ⟨2, ![1, 1]⟩
abbrev S128x128 : Shape := ⟨2, ![128, 128]⟩
abbrev S1x128x128 : Shape := ⟨3, ![1, 128, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 8
  | .vmem => 13
  | .smem => 1
  | _ => 0

abbrev bufTy : (tb : Table) → Fin (tcTables nBuf tb) → BufTy
  | .hbm, ⟨0, _⟩ => ⟨S3x1024x4736, .bf16⟩
  | .hbm, ⟨1, _⟩ => ⟨S4736x3584, .fp8e4m3⟩
  | .hbm, ⟨2, _⟩ => ⟨S37x28, .f32⟩
  | .hbm, ⟨3, _⟩ => ⟨S3072x4736, .bf16⟩
  | .hbm, ⟨4, _⟩ => ⟨S3072x1792, .fp8e4m3⟩
  | .hbm, ⟨5, _⟩ => ⟨S3072x14, .f32⟩
  | .hbm, ⟨6, _⟩ => ⟨S3072x4736, .fp8e4m3⟩
  | .hbm, ⟨7, _⟩ => ⟨S3072x37, .f32⟩
  | .local _ .vmem, ⟨0, _⟩ => ⟨S256x4736, .bf16⟩
  | .local _ .vmem, ⟨1, _⟩ => ⟨S256x4736, .bf16⟩
  | .local _ .vmem, ⟨2, _⟩ => ⟨S256x1792, .fp8e4m3⟩
  | .local _ .vmem, ⟨3, _⟩ => ⟨S256x1792, .fp8e4m3⟩
  | .local _ .vmem, ⟨4, _⟩ => ⟨S256x14, .f32⟩
  | .local _ .vmem, ⟨5, _⟩ => ⟨S256x14, .f32⟩
  | .local _ .vmem, ⟨6, _⟩ => ⟨S256x4736, .fp8e4m3⟩
  | .local _ .vmem, ⟨7, _⟩ => ⟨S256x4736, .fp8e4m3⟩
  | .local _ .vmem, ⟨8, _⟩ => ⟨S256x37, .f32⟩
  | .local _ .vmem, ⟨9, _⟩ => ⟨S256x37, .f32⟩
  | .local _ .vmem, ⟨10, _⟩ => ⟨S4736x3584, .bf16⟩
  | .local _ .vmem, ⟨11, _⟩ => ⟨S2x4736x256, .fp8e4m3⟩
  | .local _ .vmem, ⟨12, _⟩ => ⟨S256x4736, .bf16⟩
  | .local _ .smem, ⟨0, _⟩ => ⟨S37x28, .f32⟩
  | _, _ => ⟨S3x1024x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1058 : BitVec 32 := 0#32
  let c37_i32 : BitVec 32 := 37#32
  let v2843 : BitVec 32 := Scalar.addi c0_i32_1058 c37_i32
  let c1_i32_1059 : BitVec 32 := 1#32
  ⟨c0_i32_1058, v2843, c1_i32_1059⟩
def k0_mult1 (k0_t1 : Fin k0_t1_loop.trips) : BitVec 32 :=
  let c0_i32_1058 : BitVec 32 := 0#32
  let c1_i32_1059 : BitVec 32 := 1#32
  let arg12 : BitVec 32 := Scf.iv c0_i32_1058 c1_i32_1059 k0_t1
  let c128_i32 : BitVec 32 := 128#32
  let v2982 : BitVec 32 := Scalar.muli arg12 c128_i32
  v2982
def k0_off1 (k0_t1 : Fin k0_t1_loop.trips) : Fin 2 → Nat :=
  let c0_i32_1058 : BitVec 32 := 0#32
  let c1_i32_1059 : BitVec 32 := 1#32
  let arg12 : BitVec 32 := Scf.iv c0_i32_1058 c1_i32_1059 k0_t1
  let v2984 : Index := Scalar.indexCast arg12
  let c0_1251 : Index := 0#32
  ![v2984.toNat, 0]
def k0_off2 (k0_t1 : Fin k0_t1_loop.trips) : Fin 3 → Nat :=
  let c0_1252 : Index := 0#32
  let c0_i32_1058 : BitVec 32 := 0#32
  let c1_i32_1059 : BitVec 32 := 1#32
  let arg12 : BitVec 32 := Scf.iv c0_i32_1058 c1_i32_1059 k0_t1
  let c128_i32 : BitVec 32 := 128#32
  let v2982 : BitVec 32 := Scalar.muli arg12 c128_i32
  let v2983 : BitVec 32 := v2982
  let v2988 : Index := Scalar.indexCast v2983
  let c0_1253 : Index := 0#32
  ![0, v2988.toNat, 0]
def k0_off3 (k0_t1 : Fin k0_t1_loop.trips) : Fin 2 → Nat :=
  let c0_i32_1058 : BitVec 32 := 0#32
  let c1_i32_1059 : BitVec 32 := 1#32
  let arg12 : BitVec 32 := Scf.iv c0_i32_1058 c1_i32_1059 k0_t1
  let c128_i32 : BitVec 32 := 128#32
  let v2982 : BitVec 32 := Scalar.muli arg12 c128_i32
  let v2983 : BitVec 32 := v2982
  let v2993 : Index := Scalar.indexCast v2983
  let c0_1254 : Index := 0#32
  ![v2993.toNat, 0]
def k0_off4 (k0_t1 : Fin k0_t1_loop.trips) : Fin 2 → Nat :=
  let c0_i32_1058 : BitVec 32 := 0#32
  let c1_i32_1059 : BitVec 32 := 1#32
  let arg12 : BitVec 32 := Scf.iv c0_i32_1058 c1_i32_1059 k0_t1
  let v2997 : Index := Scalar.indexCast arg12
  let c1 : Index := 1#32
  ![v2997.toNat, 1]
def k0_off5 (k0_t1 : Fin k0_t1_loop.trips) : Fin 3 → Nat :=
  let c0_1255 : Index := 0#32
  let c0_i32_1058 : BitVec 32 := 0#32
  let c1_i32_1059 : BitVec 32 := 1#32
  let arg12 : BitVec 32 := Scf.iv c0_i32_1058 c1_i32_1059 k0_t1
  let c128_i32 : BitVec 32 := 128#32
  let v2982 : BitVec 32 := Scalar.muli arg12 c128_i32
  let v2983 : BitVec 32 := v2982
  let v3001 : Index := Scalar.indexCast v2983
  let c128_1256 : Index := 128#32
  ![0, v3001.toNat, 128]
def k0_off6 (k0_t1 : Fin k0_t1_loop.trips) : Fin 2 → Nat :=
  let c0_i32_1058 : BitVec 32 := 0#32
  let c1_i32_1059 : BitVec 32 := 1#32
  let arg12 : BitVec 32 := Scf.iv c0_i32_1058 c1_i32_1059 k0_t1
  let c128_i32 : BitVec 32 := 128#32
  let v2982 : BitVec 32 := Scalar.muli arg12 c128_i32
  let v2983 : BitVec 32 := v2982
  let v3006 : Index := Scalar.indexCast v2983
  let c128_1257 : Index := 128#32
  ![v3006.toNat, 128]
@[reducible] def k0_t2_loop : Scf.Loop 32 :=
  let c0_i32_1072 : BitVec 32 := 0#32
  let c37_i32_1073 : BitVec 32 := 37#32
  let v2854 : BitVec 32 := Scalar.addi c0_i32_1072 c37_i32_1073
  let c1_i32_1074 : BitVec 32 := 1#32
  ⟨c0_i32_1072, v2854, c1_i32_1074⟩
def k0_mult2 (k0_t2 : Fin k0_t2_loop.trips) : BitVec 32 :=
  let c0_i32_1072 : BitVec 32 := 0#32
  let c1_i32_1074 : BitVec 32 := 1#32
  let arg12 : BitVec 32 := Scf.iv c0_i32_1072 c1_i32_1074 k0_t2
  let c128_i32 : BitVec 32 := 128#32
  let v2982 : BitVec 32 := Scalar.muli arg12 c128_i32
  v2982
def k0_off7 (k0_t2 : Fin k0_t2_loop.trips) : Fin 2 → Nat :=
  let c0_i32_1072 : BitVec 32 := 0#32
  let c1_i32_1074 : BitVec 32 := 1#32
  let arg12 : BitVec 32 := Scf.iv c0_i32_1072 c1_i32_1074 k0_t2
  let v2984 : Index := Scalar.indexCast arg12
  let c2 : Index := 2#32
  ![v2984.toNat, 2]
def k0_off8 (k0_t2 : Fin k0_t2_loop.trips) : Fin 3 → Nat :=
  let c1 : Index := 1#32
  let c0_i32_1072 : BitVec 32 := 0#32
  let c1_i32_1074 : BitVec 32 := 1#32
  let arg12 : BitVec 32 := Scf.iv c0_i32_1072 c1_i32_1074 k0_t2
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off9 (k0_t2 : Fin k0_t2_loop.trips) : Fin 2 → Nat :=
  let c0_i32_1072 : BitVec 32 := 0#32
  let c1_i32_1074 : BitVec 32 := 1#32
  let arg12 : BitVec 32 := Scf.iv c0_i32_1072 c1_i32_1074 k0_t2
  let c128_i32 : BitVec 32 := 128#32
  let v2982 : BitVec 32 := Scalar.muli arg12 c128_i32
  let v2983 : BitVec 32 := v2982
  let v2993 : Index := Scalar.indexCast v2983
  let c256_1252 : Index := 256#32
  ![v2993.toNat, 256]
def k0_off10 (k0_t2 : Fin k0_t2_loop.trips) : Fin 2 → Nat :=
  let c0_i32_1072 : BitVec 32 := 0#32
  let c1_i32_1074 : BitVec 32 := 1#32
  let arg12 : BitVec 32 := Scf.iv c0_i32_1072 c1_i32_1074 k0_t2
  let v2997 : Index := Scalar.indexCast arg12
  let c3 : Index := 3#32
  ![v2997.toNat, 3]
def k0_off11 (k0_t2 : Fin k0_t2_loop.trips) : Fin 3 → Nat :=
  let c1_1253 : Index := 1#32
  let c0_i32_1072 : BitVec 32 := 0#32
  let c1_i32_1074 : BitVec 32 := 1#32
  let arg12 : BitVec 32 := Scf.iv c0_i32_1072 c1_i32_1074 k0_t2
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off12 (k0_t2 : Fin k0_t2_loop.trips) : Fin 2 → Nat :=
  let c0_i32_1072 : BitVec 32 := 0#32
  let c1_i32_1074 : BitVec 32 := 1#32
  let arg12 : BitVec 32 := Scf.iv c0_i32_1072 c1_i32_1074 k0_t2
  let c128_i32 : BitVec 32 := 128#32
  let v2982 : BitVec 32 := Scalar.muli arg12 c128_i32
  let v2983 : BitVec 32 := v2982
  let v3006 : Index := Scalar.indexCast v2983
  let c384_1255 : Index := 384#32
  ![v3006.toNat, 384]
@[reducible] def k0_t3_loop : Scf.Loop 32 :=
  let c0_i32_1087 : BitVec 32 := 0#32
  let c37_i32_1088 : BitVec 32 := 37#32
  let v2865 : BitVec 32 := Scalar.addi c0_i32_1087 c37_i32_1088
  let c1_i32_1089 : BitVec 32 := 1#32
  ⟨c0_i32_1087, v2865, c1_i32_1089⟩
def k0_mult3 (k0_t3 : Fin k0_t3_loop.trips) : BitVec 32 :=
  let c0_i32_1087 : BitVec 32 := 0#32
  let c1_i32_1089 : BitVec 32 := 1#32
  let arg12 : BitVec 32 := Scf.iv c0_i32_1087 c1_i32_1089 k0_t3
  let c128_i32 : BitVec 32 := 128#32
  let v2982 : BitVec 32 := Scalar.muli arg12 c128_i32
  v2982
def k0_off13 (k0_t3 : Fin k0_t3_loop.trips) : Fin 2 → Nat :=
  let c0_i32_1087 : BitVec 32 := 0#32
  let c1_i32_1089 : BitVec 32 := 1#32
  let arg12 : BitVec 32 := Scf.iv c0_i32_1087 c1_i32_1089 k0_t3
  let v2984 : Index := Scalar.indexCast arg12
  let c4 : Index := 4#32
  ![v2984.toNat, 4]
def k0_off14 (k0_t3 : Fin k0_t3_loop.trips) : Fin 3 → Nat :=
  let c0_1251 : Index := 0#32
  let c0_i32_1087 : BitVec 32 := 0#32
  let c1_i32_1089 : BitVec 32 := 1#32
  let arg12 : BitVec 32 := Scf.iv c0_i32_1087 c1_i32_1089 k0_t3
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off15 (k0_t3 : Fin k0_t3_loop.trips) : Fin 2 → Nat :=
  let c0_i32_1087 : BitVec 32 := 0#32
  let c1_i32_1089 : BitVec 32 := 1#32
  let arg12 : BitVec 32 := Scf.iv c0_i32_1087 c1_i32_1089 k0_t3
  let c128_i32 : BitVec 32 := 128#32
  let v2982 : BitVec 32 := Scalar.muli arg12 c128_i32
  let v2983 : BitVec 32 := v2982
  let v2993 : Index := Scalar.indexCast v2983
  let c512_1253 : Index := 512#32
  ![v2993.toNat, 512]
def k0_off16 (k0_t3 : Fin k0_t3_loop.trips) : Fin 2 → Nat :=
  let c0_i32_1087 : BitVec 32 := 0#32
  let c1_i32_1089 : BitVec 32 := 1#32
  let arg12 : BitVec 32 := Scf.iv c0_i32_1087 c1_i32_1089 k0_t3
  let v2997 : Index := Scalar.indexCast arg12
  let c5 : Index := 5#32
  ![v2997.toNat, 5]
def k0_off17 (k0_t3 : Fin k0_t3_loop.trips) : Fin 3 → Nat :=
  let c0_1254 : Index := 0#32
  let c0_i32_1087 : BitVec 32 := 0#32
  let c1_i32_1089 : BitVec 32 := 1#32
  let arg12 : BitVec 32 := Scf.iv c0_i32_1087 c1_i32_1089 k0_t3
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off18 (k0_t3 : Fin k0_t3_loop.trips) : Fin 2 → Nat :=
  let c0_i32_1087 : BitVec 32 := 0#32
  let c1_i32_1089 : BitVec 32 := 1#32
  let arg12 : BitVec 32 := Scf.iv c0_i32_1087 c1_i32_1089 k0_t3
  let c128_i32 : BitVec 32 := 128#32
  let v2982 : BitVec 32 := Scalar.muli arg12 c128_i32
  let v2983 : BitVec 32 := v2982
  let v3006 : Index := Scalar.indexCast v2983
  let c640_1256 : Index := 640#32
  ![v3006.toNat, 640]
@[reducible] def k0_t4_loop : Scf.Loop 32 :=
  let c0_i32_1102 : BitVec 32 := 0#32
  let c37_i32_1103 : BitVec 32 := 37#32
  let v2876 : BitVec 32 := Scalar.addi c0_i32_1102 c37_i32_1103
  let c1_i32_1104 : BitVec 32 := 1#32
  ⟨c0_i32_1102, v2876, c1_i32_1104⟩
def k0_mult4 (k0_t4 : Fin k0_t4_loop.trips) : BitVec 32 :=
  let c0_i32_1102 : BitVec 32 := 0#32
  let c1_i32_1104 : BitVec 32 := 1#32
  let arg12 : BitVec 32 := Scf.iv c0_i32_1102 c1_i32_1104 k0_t4
  let c128_i32 : BitVec 32 := 128#32
  let v2982 : BitVec 32 := Scalar.muli arg12 c128_i32
  v2982
def k0_off19 (k0_t4 : Fin k0_t4_loop.trips) : Fin 2 → Nat :=
  let c0_i32_1102 : BitVec 32 := 0#32
  let c1_i32_1104 : BitVec 32 := 1#32
  let arg12 : BitVec 32 := Scf.iv c0_i32_1102 c1_i32_1104 k0_t4
  let v2984 : Index := Scalar.indexCast arg12
  let c6 : Index := 6#32
  ![v2984.toNat, 6]
def k0_off20 (k0_t4 : Fin k0_t4_loop.trips) : Fin 3 → Nat :=
  let c1 : Index := 1#32
  let c0_i32_1102 : BitVec 32 := 0#32
  let c1_i32_1104 : BitVec 32 := 1#32
  let arg12 : BitVec 32 := Scf.iv c0_i32_1102 c1_i32_1104 k0_t4
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off21 (k0_t4 : Fin k0_t4_loop.trips) : Fin 2 → Nat :=
  let c0_i32_1102 : BitVec 32 := 0#32
  let c1_i32_1104 : BitVec 32 := 1#32
  let arg12 : BitVec 32 := Scf.iv c0_i32_1102 c1_i32_1104 k0_t4
  let c128_i32 : BitVec 32 := 128#32
  let v2982 : BitVec 32 := Scalar.muli arg12 c128_i32
  let v2983 : BitVec 32 := v2982
  let v2993 : Index := Scalar.indexCast v2983
  let c768_1252 : Index := 768#32
  ![v2993.toNat, 768]
def k0_off22 (k0_t4 : Fin k0_t4_loop.trips) : Fin 2 → Nat :=
  let c0_i32_1102 : BitVec 32 := 0#32
  let c1_i32_1104 : BitVec 32 := 1#32
  let arg12 : BitVec 32 := Scf.iv c0_i32_1102 c1_i32_1104 k0_t4
  let v2997 : Index := Scalar.indexCast arg12
  let c7 : Index := 7#32
  ![v2997.toNat, 7]
def k0_off23 (k0_t4 : Fin k0_t4_loop.trips) : Fin 3 → Nat :=
  let c1_1253 : Index := 1#32
  let c0_i32_1102 : BitVec 32 := 0#32
  let c1_i32_1104 : BitVec 32 := 1#32
  let arg12 : BitVec 32 := Scf.iv c0_i32_1102 c1_i32_1104 k0_t4
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off24 (k0_t4 : Fin k0_t4_loop.trips) : Fin 2 → Nat :=
  let c0_i32_1102 : BitVec 32 := 0#32
  let c1_i32_1104 : BitVec 32 := 1#32
  let arg12 : BitVec 32 := Scf.iv c0_i32_1102 c1_i32_1104 k0_t4
  let c128_i32 : BitVec 32 := 128#32
  let v2982 : BitVec 32 := Scalar.muli arg12 c128_i32
  let v2983 : BitVec 32 := v2982
  let v3006 : Index := Scalar.indexCast v2983
  let c896_1255 : Index := 896#32
  ![v3006.toNat, 896]
@[reducible] def k0_t5_loop : Scf.Loop 32 :=
  let c0_i32_1117 : BitVec 32 := 0#32
  let c37_i32_1118 : BitVec 32 := 37#32
  let v2887 : BitVec 32 := Scalar.addi c0_i32_1117 c37_i32_1118
  let c1_i32_1119 : BitVec 32 := 1#32
  ⟨c0_i32_1117, v2887, c1_i32_1119⟩
def k0_mult5 (k0_t5 : Fin k0_t5_loop.trips) : BitVec 32 :=
  let c0_i32_1117 : BitVec 32 := 0#32
  let c1_i32_1119 : BitVec 32 := 1#32
  let arg12 : BitVec 32 := Scf.iv c0_i32_1117 c1_i32_1119 k0_t5
  let c128_i32 : BitVec 32 := 128#32
  let v2982 : BitVec 32 := Scalar.muli arg12 c128_i32
  v2982
def k0_off25 (k0_t5 : Fin k0_t5_loop.trips) : Fin 2 → Nat :=
  let c0_i32_1117 : BitVec 32 := 0#32
  let c1_i32_1119 : BitVec 32 := 1#32
  let arg12 : BitVec 32 := Scf.iv c0_i32_1117 c1_i32_1119 k0_t5
  let v2984 : Index := Scalar.indexCast arg12
  let c8 : Index := 8#32
  ![v2984.toNat, 8]
def k0_off26 (k0_t5 : Fin k0_t5_loop.trips) : Fin 3 → Nat :=
  let c0_1251 : Index := 0#32
  let c0_i32_1117 : BitVec 32 := 0#32
  let c1_i32_1119 : BitVec 32 := 1#32
  let arg12 : BitVec 32 := Scf.iv c0_i32_1117 c1_i32_1119 k0_t5
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off27 (k0_t5 : Fin k0_t5_loop.trips) : Fin 2 → Nat :=
  let c0_i32_1117 : BitVec 32 := 0#32
  let c1_i32_1119 : BitVec 32 := 1#32
  let arg12 : BitVec 32 := Scf.iv c0_i32_1117 c1_i32_1119 k0_t5
  let c128_i32 : BitVec 32 := 128#32
  let v2982 : BitVec 32 := Scalar.muli arg12 c128_i32
  let v2983 : BitVec 32 := v2982
  let v2993 : Index := Scalar.indexCast v2983
  let c1024_1253 : Index := 1024#32
  ![v2993.toNat, 1024]
def k0_off28 (k0_t5 : Fin k0_t5_loop.trips) : Fin 2 → Nat :=
  let c0_i32_1117 : BitVec 32 := 0#32
  let c1_i32_1119 : BitVec 32 := 1#32
  let arg12 : BitVec 32 := Scf.iv c0_i32_1117 c1_i32_1119 k0_t5
  let v2997 : Index := Scalar.indexCast arg12
  let c9 : Index := 9#32
  ![v2997.toNat, 9]
def k0_off29 (k0_t5 : Fin k0_t5_loop.trips) : Fin 3 → Nat :=
  let c0_1254 : Index := 0#32
  let c0_i32_1117 : BitVec 32 := 0#32
  let c1_i32_1119 : BitVec 32 := 1#32
  let arg12 : BitVec 32 := Scf.iv c0_i32_1117 c1_i32_1119 k0_t5
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off30 (k0_t5 : Fin k0_t5_loop.trips) : Fin 2 → Nat :=
  let c0_i32_1117 : BitVec 32 := 0#32
  let c1_i32_1119 : BitVec 32 := 1#32
  let arg12 : BitVec 32 := Scf.iv c0_i32_1117 c1_i32_1119 k0_t5
  let c128_i32 : BitVec 32 := 128#32
  let v2982 : BitVec 32 := Scalar.muli arg12 c128_i32
  let v2983 : BitVec 32 := v2982
  let v3006 : Index := Scalar.indexCast v2983
  let c1152_1256 : Index := 1152#32
  ![v3006.toNat, 1152]
@[reducible] def k0_t6_loop : Scf.Loop 32 :=
  let c0_i32_1132 : BitVec 32 := 0#32
  let c37_i32_1133 : BitVec 32 := 37#32
  let v2898 : BitVec 32 := Scalar.addi c0_i32_1132 c37_i32_1133
  let c1_i32_1134 : BitVec 32 := 1#32
  ⟨c0_i32_1132, v2898, c1_i32_1134⟩
def k0_mult6 (k0_t6 : Fin k0_t6_loop.trips) : BitVec 32 :=
  let c0_i32_1132 : BitVec 32 := 0#32
  let c1_i32_1134 : BitVec 32 := 1#32
  let arg12 : BitVec 32 := Scf.iv c0_i32_1132 c1_i32_1134 k0_t6
  let c128_i32 : BitVec 32 := 128#32
  let v2982 : BitVec 32 := Scalar.muli arg12 c128_i32
  v2982
def k0_off31 (k0_t6 : Fin k0_t6_loop.trips) : Fin 2 → Nat :=
  let c0_i32_1132 : BitVec 32 := 0#32
  let c1_i32_1134 : BitVec 32 := 1#32
  let arg12 : BitVec 32 := Scf.iv c0_i32_1132 c1_i32_1134 k0_t6
  let v2984 : Index := Scalar.indexCast arg12
  let c10 : Index := 10#32
  ![v2984.toNat, 10]
def k0_off32 (k0_t6 : Fin k0_t6_loop.trips) : Fin 3 → Nat :=
  let c1 : Index := 1#32
  let c0_i32_1132 : BitVec 32 := 0#32
  let c1_i32_1134 : BitVec 32 := 1#32
  let arg12 : BitVec 32 := Scf.iv c0_i32_1132 c1_i32_1134 k0_t6
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off33 (k0_t6 : Fin k0_t6_loop.trips) : Fin 2 → Nat :=
  let c0_i32_1132 : BitVec 32 := 0#32
  let c1_i32_1134 : BitVec 32 := 1#32
  let arg12 : BitVec 32 := Scf.iv c0_i32_1132 c1_i32_1134 k0_t6
  let c128_i32 : BitVec 32 := 128#32
  let v2982 : BitVec 32 := Scalar.muli arg12 c128_i32
  let v2983 : BitVec 32 := v2982
  let v2993 : Index := Scalar.indexCast v2983
  let c1280_1252 : Index := 1280#32
  ![v2993.toNat, 1280]
def k0_off34 (k0_t6 : Fin k0_t6_loop.trips) : Fin 2 → Nat :=
  let c0_i32_1132 : BitVec 32 := 0#32
  let c1_i32_1134 : BitVec 32 := 1#32
  let arg12 : BitVec 32 := Scf.iv c0_i32_1132 c1_i32_1134 k0_t6
  let v2997 : Index := Scalar.indexCast arg12
  let c11 : Index := 11#32
  ![v2997.toNat, 11]
def k0_off35 (k0_t6 : Fin k0_t6_loop.trips) : Fin 3 → Nat :=
  let c1_1253 : Index := 1#32
  let c0_i32_1132 : BitVec 32 := 0#32
  let c1_i32_1134 : BitVec 32 := 1#32
  let arg12 : BitVec 32 := Scf.iv c0_i32_1132 c1_i32_1134 k0_t6
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off36 (k0_t6 : Fin k0_t6_loop.trips) : Fin 2 → Nat :=
  let c0_i32_1132 : BitVec 32 := 0#32
  let c1_i32_1134 : BitVec 32 := 1#32
  let arg12 : BitVec 32 := Scf.iv c0_i32_1132 c1_i32_1134 k0_t6
  let c128_i32 : BitVec 32 := 128#32
  let v2982 : BitVec 32 := Scalar.muli arg12 c128_i32
  let v2983 : BitVec 32 := v2982
  let v3006 : Index := Scalar.indexCast v2983
  let c1408_1255 : Index := 1408#32
  ![v3006.toNat, 1408]
@[reducible] def k0_t7_loop : Scf.Loop 32 :=
  let c0_i32_1147 : BitVec 32 := 0#32
  let c37_i32_1148 : BitVec 32 := 37#32
  let v2909 : BitVec 32 := Scalar.addi c0_i32_1147 c37_i32_1148
  let c1_i32_1149 : BitVec 32 := 1#32
  ⟨c0_i32_1147, v2909, c1_i32_1149⟩
def k0_mult7 (k0_t7 : Fin k0_t7_loop.trips) : BitVec 32 :=
  let c0_i32_1147 : BitVec 32 := 0#32
  let c1_i32_1149 : BitVec 32 := 1#32
  let arg12 : BitVec 32 := Scf.iv c0_i32_1147 c1_i32_1149 k0_t7
  let c128_i32 : BitVec 32 := 128#32
  let v2982 : BitVec 32 := Scalar.muli arg12 c128_i32
  v2982
def k0_off37 (k0_t7 : Fin k0_t7_loop.trips) : Fin 2 → Nat :=
  let c0_i32_1147 : BitVec 32 := 0#32
  let c1_i32_1149 : BitVec 32 := 1#32
  let arg12 : BitVec 32 := Scf.iv c0_i32_1147 c1_i32_1149 k0_t7
  let v2984 : Index := Scalar.indexCast arg12
  let c12 : Index := 12#32
  ![v2984.toNat, 12]
def k0_off38 (k0_t7 : Fin k0_t7_loop.trips) : Fin 3 → Nat :=
  let c0_1251 : Index := 0#32
  let c0_i32_1147 : BitVec 32 := 0#32
  let c1_i32_1149 : BitVec 32 := 1#32
  let arg12 : BitVec 32 := Scf.iv c0_i32_1147 c1_i32_1149 k0_t7
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off39 (k0_t7 : Fin k0_t7_loop.trips) : Fin 2 → Nat :=
  let c0_i32_1147 : BitVec 32 := 0#32
  let c1_i32_1149 : BitVec 32 := 1#32
  let arg12 : BitVec 32 := Scf.iv c0_i32_1147 c1_i32_1149 k0_t7
  let c128_i32 : BitVec 32 := 128#32
  let v2982 : BitVec 32 := Scalar.muli arg12 c128_i32
  let v2983 : BitVec 32 := v2982
  let v2993 : Index := Scalar.indexCast v2983
  let c1536_1253 : Index := 1536#32
  ![v2993.toNat, 1536]
def k0_off40 (k0_t7 : Fin k0_t7_loop.trips) : Fin 2 → Nat :=
  let c0_i32_1147 : BitVec 32 := 0#32
  let c1_i32_1149 : BitVec 32 := 1#32
  let arg12 : BitVec 32 := Scf.iv c0_i32_1147 c1_i32_1149 k0_t7
  let v2997 : Index := Scalar.indexCast arg12
  let c13 : Index := 13#32
  ![v2997.toNat, 13]
def k0_off41 (k0_t7 : Fin k0_t7_loop.trips) : Fin 3 → Nat :=
  let c0_1254 : Index := 0#32
  let c0_i32_1147 : BitVec 32 := 0#32
  let c1_i32_1149 : BitVec 32 := 1#32
  let arg12 : BitVec 32 := Scf.iv c0_i32_1147 c1_i32_1149 k0_t7
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off42 (k0_t7 : Fin k0_t7_loop.trips) : Fin 2 → Nat :=
  let c0_i32_1147 : BitVec 32 := 0#32
  let c1_i32_1149 : BitVec 32 := 1#32
  let arg12 : BitVec 32 := Scf.iv c0_i32_1147 c1_i32_1149 k0_t7
  let c128_i32 : BitVec 32 := 128#32
  let v2982 : BitVec 32 := Scalar.muli arg12 c128_i32
  let v2983 : BitVec 32 := v2982
  let v3006 : Index := Scalar.indexCast v2983
  let c1664_1256 : Index := 1664#32
  ![v3006.toNat, 1664]
@[reducible] def k0_t8_loop : Scf.Loop 32 :=
  let c0_i32_1162 : BitVec 32 := 0#32
  let c37_i32_1163 : BitVec 32 := 37#32
  let v2920 : BitVec 32 := Scalar.addi c0_i32_1162 c37_i32_1163
  let c1_i32_1164 : BitVec 32 := 1#32
  ⟨c0_i32_1162, v2920, c1_i32_1164⟩
def k0_mult8 (k0_t8 : Fin k0_t8_loop.trips) : BitVec 32 :=
  let c0_i32_1162 : BitVec 32 := 0#32
  let c1_i32_1164 : BitVec 32 := 1#32
  let arg12 : BitVec 32 := Scf.iv c0_i32_1162 c1_i32_1164 k0_t8
  let c128_i32 : BitVec 32 := 128#32
  let v2982 : BitVec 32 := Scalar.muli arg12 c128_i32
  v2982
def k0_off43 (k0_t8 : Fin k0_t8_loop.trips) : Fin 2 → Nat :=
  let c0_i32_1162 : BitVec 32 := 0#32
  let c1_i32_1164 : BitVec 32 := 1#32
  let arg12 : BitVec 32 := Scf.iv c0_i32_1162 c1_i32_1164 k0_t8
  let v2984 : Index := Scalar.indexCast arg12
  let c14 : Index := 14#32
  ![v2984.toNat, 14]
def k0_off44 (k0_t8 : Fin k0_t8_loop.trips) : Fin 3 → Nat :=
  let c1 : Index := 1#32
  let c0_i32_1162 : BitVec 32 := 0#32
  let c1_i32_1164 : BitVec 32 := 1#32
  let arg12 : BitVec 32 := Scf.iv c0_i32_1162 c1_i32_1164 k0_t8
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off45 (k0_t8 : Fin k0_t8_loop.trips) : Fin 2 → Nat :=
  let c0_i32_1162 : BitVec 32 := 0#32
  let c1_i32_1164 : BitVec 32 := 1#32
  let arg12 : BitVec 32 := Scf.iv c0_i32_1162 c1_i32_1164 k0_t8
  let c128_i32 : BitVec 32 := 128#32
  let v2982 : BitVec 32 := Scalar.muli arg12 c128_i32
  let v2983 : BitVec 32 := v2982
  let v2993 : Index := Scalar.indexCast v2983
  let c1792_1252 : Index := 1792#32
  ![v2993.toNat, 1792]
def k0_off46 (k0_t8 : Fin k0_t8_loop.trips) : Fin 2 → Nat :=
  let c0_i32_1162 : BitVec 32 := 0#32
  let c1_i32_1164 : BitVec 32 := 1#32
  let arg12 : BitVec 32 := Scf.iv c0_i32_1162 c1_i32_1164 k0_t8
  let v2997 : Index := Scalar.indexCast arg12
  let c15 : Index := 15#32
  ![v2997.toNat, 15]
def k0_off47 (k0_t8 : Fin k0_t8_loop.trips) : Fin 3 → Nat :=
  let c1_1253 : Index := 1#32
  let c0_i32_1162 : BitVec 32 := 0#32
  let c1_i32_1164 : BitVec 32 := 1#32
  let arg12 : BitVec 32 := Scf.iv c0_i32_1162 c1_i32_1164 k0_t8
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off48 (k0_t8 : Fin k0_t8_loop.trips) : Fin 2 → Nat :=
  let c0_i32_1162 : BitVec 32 := 0#32
  let c1_i32_1164 : BitVec 32 := 1#32
  let arg12 : BitVec 32 := Scf.iv c0_i32_1162 c1_i32_1164 k0_t8
  let c128_i32 : BitVec 32 := 128#32
  let v2982 : BitVec 32 := Scalar.muli arg12 c128_i32
  let v2983 : BitVec 32 := v2982
  let v3006 : Index := Scalar.indexCast v2983
  let c1920_1255 : Index := 1920#32
  ![v3006.toNat, 1920]
@[reducible] def k0_t9_loop : Scf.Loop 32 :=
  let c0_i32_1177 : BitVec 32 := 0#32
  let c37_i32_1178 : BitVec 32 := 37#32
  let v2931 : BitVec 32 := Scalar.addi c0_i32_1177 c37_i32_1178
  let c1_i32_1179 : BitVec 32 := 1#32
  ⟨c0_i32_1177, v2931, c1_i32_1179⟩
def k0_mult9 (k0_t9 : Fin k0_t9_loop.trips) : BitVec 32 :=
  let c0_i32_1177 : BitVec 32 := 0#32
  let c1_i32_1179 : BitVec 32 := 1#32
  let arg12 : BitVec 32 := Scf.iv c0_i32_1177 c1_i32_1179 k0_t9
  let c128_i32 : BitVec 32 := 128#32
  let v2982 : BitVec 32 := Scalar.muli arg12 c128_i32
  v2982
def k0_off49 (k0_t9 : Fin k0_t9_loop.trips) : Fin 2 → Nat :=
  let c0_i32_1177 : BitVec 32 := 0#32
  let c1_i32_1179 : BitVec 32 := 1#32
  let arg12 : BitVec 32 := Scf.iv c0_i32_1177 c1_i32_1179 k0_t9
  let v2984 : Index := Scalar.indexCast arg12
  let c16 : Index := 16#32
  ![v2984.toNat, 16]
def k0_off50 (k0_t9 : Fin k0_t9_loop.trips) : Fin 3 → Nat :=
  let c0_1251 : Index := 0#32
  let c0_i32_1177 : BitVec 32 := 0#32
  let c1_i32_1179 : BitVec 32 := 1#32
  let arg12 : BitVec 32 := Scf.iv c0_i32_1177 c1_i32_1179 k0_t9
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off51 (k0_t9 : Fin k0_t9_loop.trips) : Fin 2 → Nat :=
  let c0_i32_1177 : BitVec 32 := 0#32
  let c1_i32_1179 : BitVec 32 := 1#32
  let arg12 : BitVec 32 := Scf.iv c0_i32_1177 c1_i32_1179 k0_t9
  let c128_i32 : BitVec 32 := 128#32
  let v2982 : BitVec 32 := Scalar.muli arg12 c128_i32
  let v2983 : BitVec 32 := v2982
  let v2993 : Index := Scalar.indexCast v2983
  let c2048_1253 : Index := 2048#32
  ![v2993.toNat, 2048]
def k0_off52 (k0_t9 : Fin k0_t9_loop.trips) : Fin 2 → Nat :=
  let c0_i32_1177 : BitVec 32 := 0#32
  let c1_i32_1179 : BitVec 32 := 1#32
  let arg12 : BitVec 32 := Scf.iv c0_i32_1177 c1_i32_1179 k0_t9
  let v2997 : Index := Scalar.indexCast arg12
  let c17 : Index := 17#32
  ![v2997.toNat, 17]
def k0_off53 (k0_t9 : Fin k0_t9_loop.trips) : Fin 3 → Nat :=
  let c0_1254 : Index := 0#32
  let c0_i32_1177 : BitVec 32 := 0#32
  let c1_i32_1179 : BitVec 32 := 1#32
  let arg12 : BitVec 32 := Scf.iv c0_i32_1177 c1_i32_1179 k0_t9
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off54 (k0_t9 : Fin k0_t9_loop.trips) : Fin 2 → Nat :=
  let c0_i32_1177 : BitVec 32 := 0#32
  let c1_i32_1179 : BitVec 32 := 1#32
  let arg12 : BitVec 32 := Scf.iv c0_i32_1177 c1_i32_1179 k0_t9
  let c128_i32 : BitVec 32 := 128#32
  let v2982 : BitVec 32 := Scalar.muli arg12 c128_i32
  let v2983 : BitVec 32 := v2982
  let v3006 : Index := Scalar.indexCast v2983
  let c2176_1256 : Index := 2176#32
  ![v3006.toNat, 2176]
@[reducible] def k0_t10_loop : Scf.Loop 32 :=
  let c0_i32_1192 : BitVec 32 := 0#32
  let c37_i32_1193 : BitVec 32 := 37#32
  let v2942 : BitVec 32 := Scalar.addi c0_i32_1192 c37_i32_1193
  let c1_i32_1194 : BitVec 32 := 1#32
  ⟨c0_i32_1192, v2942, c1_i32_1194⟩
def k0_mult10 (k0_t10 : Fin k0_t10_loop.trips) : BitVec 32 :=
  let c0_i32_1192 : BitVec 32 := 0#32
  let c1_i32_1194 : BitVec 32 := 1#32
  let arg12 : BitVec 32 := Scf.iv c0_i32_1192 c1_i32_1194 k0_t10
  let c128_i32 : BitVec 32 := 128#32
  let v2982 : BitVec 32 := Scalar.muli arg12 c128_i32
  v2982
def k0_off55 (k0_t10 : Fin k0_t10_loop.trips) : Fin 2 → Nat :=
  let c0_i32_1192 : BitVec 32 := 0#32
  let c1_i32_1194 : BitVec 32 := 1#32
  let arg12 : BitVec 32 := Scf.iv c0_i32_1192 c1_i32_1194 k0_t10
  let v2984 : Index := Scalar.indexCast arg12
  let c18 : Index := 18#32
  ![v2984.toNat, 18]
def k0_off56 (k0_t10 : Fin k0_t10_loop.trips) : Fin 3 → Nat :=
  let c1 : Index := 1#32
  let c0_i32_1192 : BitVec 32 := 0#32
  let c1_i32_1194 : BitVec 32 := 1#32
  let arg12 : BitVec 32 := Scf.iv c0_i32_1192 c1_i32_1194 k0_t10
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off57 (k0_t10 : Fin k0_t10_loop.trips) : Fin 2 → Nat :=
  let c0_i32_1192 : BitVec 32 := 0#32
  let c1_i32_1194 : BitVec 32 := 1#32
  let arg12 : BitVec 32 := Scf.iv c0_i32_1192 c1_i32_1194 k0_t10
  let c128_i32 : BitVec 32 := 128#32
  let v2982 : BitVec 32 := Scalar.muli arg12 c128_i32
  let v2983 : BitVec 32 := v2982
  let v2993 : Index := Scalar.indexCast v2983
  let c2304_1252 : Index := 2304#32
  ![v2993.toNat, 2304]
def k0_off58 (k0_t10 : Fin k0_t10_loop.trips) : Fin 2 → Nat :=
  let c0_i32_1192 : BitVec 32 := 0#32
  let c1_i32_1194 : BitVec 32 := 1#32
  let arg12 : BitVec 32 := Scf.iv c0_i32_1192 c1_i32_1194 k0_t10
  let v2997 : Index := Scalar.indexCast arg12
  let c19 : Index := 19#32
  ![v2997.toNat, 19]
def k0_off59 (k0_t10 : Fin k0_t10_loop.trips) : Fin 3 → Nat :=
  let c1_1253 : Index := 1#32
  let c0_i32_1192 : BitVec 32 := 0#32
  let c1_i32_1194 : BitVec 32 := 1#32
  let arg12 : BitVec 32 := Scf.iv c0_i32_1192 c1_i32_1194 k0_t10
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off60 (k0_t10 : Fin k0_t10_loop.trips) : Fin 2 → Nat :=
  let c0_i32_1192 : BitVec 32 := 0#32
  let c1_i32_1194 : BitVec 32 := 1#32
  let arg12 : BitVec 32 := Scf.iv c0_i32_1192 c1_i32_1194 k0_t10
  let c128_i32 : BitVec 32 := 128#32
  let v2982 : BitVec 32 := Scalar.muli arg12 c128_i32
  let v2983 : BitVec 32 := v2982
  let v3006 : Index := Scalar.indexCast v2983
  let c2432_1255 : Index := 2432#32
  ![v3006.toNat, 2432]
@[reducible] def k0_t11_loop : Scf.Loop 32 :=
  let c0_i32_1207 : BitVec 32 := 0#32
  let c37_i32_1208 : BitVec 32 := 37#32
  let v2953 : BitVec 32 := Scalar.addi c0_i32_1207 c37_i32_1208
  let c1_i32_1209 : BitVec 32 := 1#32
  ⟨c0_i32_1207, v2953, c1_i32_1209⟩
def k0_mult11 (k0_t11 : Fin k0_t11_loop.trips) : BitVec 32 :=
  let c0_i32_1207 : BitVec 32 := 0#32
  let c1_i32_1209 : BitVec 32 := 1#32
  let arg12 : BitVec 32 := Scf.iv c0_i32_1207 c1_i32_1209 k0_t11
  let c128_i32 : BitVec 32 := 128#32
  let v2982 : BitVec 32 := Scalar.muli arg12 c128_i32
  v2982
def k0_off61 (k0_t11 : Fin k0_t11_loop.trips) : Fin 2 → Nat :=
  let c0_i32_1207 : BitVec 32 := 0#32
  let c1_i32_1209 : BitVec 32 := 1#32
  let arg12 : BitVec 32 := Scf.iv c0_i32_1207 c1_i32_1209 k0_t11
  let v2984 : Index := Scalar.indexCast arg12
  let c20 : Index := 20#32
  ![v2984.toNat, 20]
def k0_off62 (k0_t11 : Fin k0_t11_loop.trips) : Fin 3 → Nat :=
  let c0_1251 : Index := 0#32
  let c0_i32_1207 : BitVec 32 := 0#32
  let c1_i32_1209 : BitVec 32 := 1#32
  let arg12 : BitVec 32 := Scf.iv c0_i32_1207 c1_i32_1209 k0_t11
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off63 (k0_t11 : Fin k0_t11_loop.trips) : Fin 2 → Nat :=
  let c0_i32_1207 : BitVec 32 := 0#32
  let c1_i32_1209 : BitVec 32 := 1#32
  let arg12 : BitVec 32 := Scf.iv c0_i32_1207 c1_i32_1209 k0_t11
  let c128_i32 : BitVec 32 := 128#32
  let v2982 : BitVec 32 := Scalar.muli arg12 c128_i32
  let v2983 : BitVec 32 := v2982
  let v2993 : Index := Scalar.indexCast v2983
  let c2560_1253 : Index := 2560#32
  ![v2993.toNat, 2560]
def k0_off64 (k0_t11 : Fin k0_t11_loop.trips) : Fin 2 → Nat :=
  let c0_i32_1207 : BitVec 32 := 0#32
  let c1_i32_1209 : BitVec 32 := 1#32
  let arg12 : BitVec 32 := Scf.iv c0_i32_1207 c1_i32_1209 k0_t11
  let v2997 : Index := Scalar.indexCast arg12
  let c21 : Index := 21#32
  ![v2997.toNat, 21]
def k0_off65 (k0_t11 : Fin k0_t11_loop.trips) : Fin 3 → Nat :=
  let c0_1254 : Index := 0#32
  let c0_i32_1207 : BitVec 32 := 0#32
  let c1_i32_1209 : BitVec 32 := 1#32
  let arg12 : BitVec 32 := Scf.iv c0_i32_1207 c1_i32_1209 k0_t11
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off66 (k0_t11 : Fin k0_t11_loop.trips) : Fin 2 → Nat :=
  let c0_i32_1207 : BitVec 32 := 0#32
  let c1_i32_1209 : BitVec 32 := 1#32
  let arg12 : BitVec 32 := Scf.iv c0_i32_1207 c1_i32_1209 k0_t11
  let c128_i32 : BitVec 32 := 128#32
  let v2982 : BitVec 32 := Scalar.muli arg12 c128_i32
  let v2983 : BitVec 32 := v2982
  let v3006 : Index := Scalar.indexCast v2983
  let c2688_1256 : Index := 2688#32
  ![v3006.toNat, 2688]
@[reducible] def k0_t12_loop : Scf.Loop 32 :=
  let c0_i32_1222 : BitVec 32 := 0#32
  let c37_i32_1223 : BitVec 32 := 37#32
  let v2964 : BitVec 32 := Scalar.addi c0_i32_1222 c37_i32_1223
  let c1_i32_1224 : BitVec 32 := 1#32
  ⟨c0_i32_1222, v2964, c1_i32_1224⟩
def k0_mult12 (k0_t12 : Fin k0_t12_loop.trips) : BitVec 32 :=
  let c0_i32_1222 : BitVec 32 := 0#32
  let c1_i32_1224 : BitVec 32 := 1#32
  let arg12 : BitVec 32 := Scf.iv c0_i32_1222 c1_i32_1224 k0_t12
  let c128_i32 : BitVec 32 := 128#32
  let v2982 : BitVec 32 := Scalar.muli arg12 c128_i32
  v2982
def k0_off67 (k0_t12 : Fin k0_t12_loop.trips) : Fin 2 → Nat :=
  let c0_i32_1222 : BitVec 32 := 0#32
  let c1_i32_1224 : BitVec 32 := 1#32
  let arg12 : BitVec 32 := Scf.iv c0_i32_1222 c1_i32_1224 k0_t12
  let v2984 : Index := Scalar.indexCast arg12
  let c22 : Index := 22#32
  ![v2984.toNat, 22]
def k0_off68 (k0_t12 : Fin k0_t12_loop.trips) : Fin 3 → Nat :=
  let c1 : Index := 1#32
  let c0_i32_1222 : BitVec 32 := 0#32
  let c1_i32_1224 : BitVec 32 := 1#32
  let arg12 : BitVec 32 := Scf.iv c0_i32_1222 c1_i32_1224 k0_t12
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off69 (k0_t12 : Fin k0_t12_loop.trips) : Fin 2 → Nat :=
  let c0_i32_1222 : BitVec 32 := 0#32
  let c1_i32_1224 : BitVec 32 := 1#32
  let arg12 : BitVec 32 := Scf.iv c0_i32_1222 c1_i32_1224 k0_t12
  let c128_i32 : BitVec 32 := 128#32
  let v2982 : BitVec 32 := Scalar.muli arg12 c128_i32
  let v2983 : BitVec 32 := v2982
  let v2993 : Index := Scalar.indexCast v2983
  let c2816_1252 : Index := 2816#32
  ![v2993.toNat, 2816]
def k0_off70 (k0_t12 : Fin k0_t12_loop.trips) : Fin 2 → Nat :=
  let c0_i32_1222 : BitVec 32 := 0#32
  let c1_i32_1224 : BitVec 32 := 1#32
  let arg12 : BitVec 32 := Scf.iv c0_i32_1222 c1_i32_1224 k0_t12
  let v2997 : Index := Scalar.indexCast arg12
  let c23 : Index := 23#32
  ![v2997.toNat, 23]
def k0_off71 (k0_t12 : Fin k0_t12_loop.trips) : Fin 3 → Nat :=
  let c1_1253 : Index := 1#32
  let c0_i32_1222 : BitVec 32 := 0#32
  let c1_i32_1224 : BitVec 32 := 1#32
  let arg12 : BitVec 32 := Scf.iv c0_i32_1222 c1_i32_1224 k0_t12
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off72 (k0_t12 : Fin k0_t12_loop.trips) : Fin 2 → Nat :=
  let c0_i32_1222 : BitVec 32 := 0#32
  let c1_i32_1224 : BitVec 32 := 1#32
  let arg12 : BitVec 32 := Scf.iv c0_i32_1222 c1_i32_1224 k0_t12
  let c128_i32 : BitVec 32 := 128#32
  let v2982 : BitVec 32 := Scalar.muli arg12 c128_i32
  let v2983 : BitVec 32 := v2982
  let v3006 : Index := Scalar.indexCast v2983
  let c2944_1255 : Index := 2944#32
  ![v3006.toNat, 2944]
@[reducible] def k0_t13_loop : Scf.Loop 32 :=
  let c0_i32_1237 : BitVec 32 := 0#32
  let c37_i32_1238 : BitVec 32 := 37#32
  let v2975 : BitVec 32 := Scalar.addi c0_i32_1237 c37_i32_1238
  let c1_i32_1239 : BitVec 32 := 1#32
  ⟨c0_i32_1237, v2975, c1_i32_1239⟩
def k0_mult13 (k0_t13 : Fin k0_t13_loop.trips) : BitVec 32 :=
  let c0_i32_1237 : BitVec 32 := 0#32
  let c1_i32_1239 : BitVec 32 := 1#32
  let arg12 : BitVec 32 := Scf.iv c0_i32_1237 c1_i32_1239 k0_t13
  let c128_i32 : BitVec 32 := 128#32
  let v2982 : BitVec 32 := Scalar.muli arg12 c128_i32
  v2982
def k0_off73 (k0_t13 : Fin k0_t13_loop.trips) : Fin 2 → Nat :=
  let c0_i32_1237 : BitVec 32 := 0#32
  let c1_i32_1239 : BitVec 32 := 1#32
  let arg12 : BitVec 32 := Scf.iv c0_i32_1237 c1_i32_1239 k0_t13
  let v2984 : Index := Scalar.indexCast arg12
  let c24 : Index := 24#32
  ![v2984.toNat, 24]
def k0_off74 (k0_t13 : Fin k0_t13_loop.trips) : Fin 3 → Nat :=
  let c0_1251 : Index := 0#32
  let c0_i32_1237 : BitVec 32 := 0#32
  let c1_i32_1239 : BitVec 32 := 1#32
  let arg12 : BitVec 32 := Scf.iv c0_i32_1237 c1_i32_1239 k0_t13
  let c128_i32 : BitVec 32 := 128#32
  let v2982 : BitVec 32 := Scalar.muli arg12 c128_i32
  let v2983 : BitVec 32 := v2982
  let v2988 : Index := Scalar.indexCast v2983
  let c0_1252 : Index := 0#32
  ![0, v2988.toNat, 0]
def k0_off75 (k0_t13 : Fin k0_t13_loop.trips) : Fin 2 → Nat :=
  let c0_i32_1237 : BitVec 32 := 0#32
  let c1_i32_1239 : BitVec 32 := 1#32
  let arg12 : BitVec 32 := Scf.iv c0_i32_1237 c1_i32_1239 k0_t13
  let c128_i32 : BitVec 32 := 128#32
  let v2982 : BitVec 32 := Scalar.muli arg12 c128_i32
  let v2983 : BitVec 32 := v2982
  let v2993 : Index := Scalar.indexCast v2983
  let c3072_1253 : Index := 3072#32
  ![v2993.toNat, 3072]
def k0_off76 (k0_t13 : Fin k0_t13_loop.trips) : Fin 2 → Nat :=
  let c0_i32_1237 : BitVec 32 := 0#32
  let c1_i32_1239 : BitVec 32 := 1#32
  let arg12 : BitVec 32 := Scf.iv c0_i32_1237 c1_i32_1239 k0_t13
  let v2997 : Index := Scalar.indexCast arg12
  let c25 : Index := 25#32
  ![v2997.toNat, 25]
def k0_off77 (k0_t13 : Fin k0_t13_loop.trips) : Fin 3 → Nat :=
  let c0_1254 : Index := 0#32
  let c0_i32_1237 : BitVec 32 := 0#32
  let c1_i32_1239 : BitVec 32 := 1#32
  let arg12 : BitVec 32 := Scf.iv c0_i32_1237 c1_i32_1239 k0_t13
  let c128_i32 : BitVec 32 := 128#32
  let v2982 : BitVec 32 := Scalar.muli arg12 c128_i32
  let v2983 : BitVec 32 := v2982
  let v3001 : Index := Scalar.indexCast v2983
  let c128_1255 : Index := 128#32
  ![0, v3001.toNat, 128]
def k0_off78 (k0_t13 : Fin k0_t13_loop.trips) : Fin 2 → Nat :=
  let c0_i32_1237 : BitVec 32 := 0#32
  let c1_i32_1239 : BitVec 32 := 1#32
  let arg12 : BitVec 32 := Scf.iv c0_i32_1237 c1_i32_1239 k0_t13
  let c128_i32 : BitVec 32 := 128#32
  let v2982 : BitVec 32 := Scalar.muli arg12 c128_i32
  let v2983 : BitVec 32 := v2982
  let v3006 : Index := Scalar.indexCast v2983
  let c3200_1256 : Index := 3200#32
  ![v3006.toNat, 3200]
@[reducible] def k0_t14_loop : Scf.Loop 32 :=
  let c0_i32_1247 : BitVec 32 := 0#32
  let c37_i32_1248 : BitVec 32 := 37#32
  let v2981 : BitVec 32 := Scalar.addi c0_i32_1247 c37_i32_1248
  let c1_i32_1249 : BitVec 32 := 1#32
  ⟨c0_i32_1247, v2981, c1_i32_1249⟩
def k0_mult14 (k0_t14 : Fin k0_t14_loop.trips) : BitVec 32 :=
  let c0_i32_1247 : BitVec 32 := 0#32
  let c1_i32_1249 : BitVec 32 := 1#32
  let arg12 : BitVec 32 := Scf.iv c0_i32_1247 c1_i32_1249 k0_t14
  let c128_i32 : BitVec 32 := 128#32
  let v2982 : BitVec 32 := Scalar.muli arg12 c128_i32
  v2982
def k0_off79 (k0_t14 : Fin k0_t14_loop.trips) : Fin 2 → Nat :=
  let c0_i32_1247 : BitVec 32 := 0#32
  let c1_i32_1249 : BitVec 32 := 1#32
  let arg12 : BitVec 32 := Scf.iv c0_i32_1247 c1_i32_1249 k0_t14
  let v2984 : Index := Scalar.indexCast arg12
  let c26 : Index := 26#32
  ![v2984.toNat, 26]
def k0_off80 (k0_t14 : Fin k0_t14_loop.trips) : Fin 3 → Nat :=
  let c1 : Index := 1#32
  let c0_i32_1247 : BitVec 32 := 0#32
  let c1_i32_1249 : BitVec 32 := 1#32
  let arg12 : BitVec 32 := Scf.iv c0_i32_1247 c1_i32_1249 k0_t14
  let c128_i32 : BitVec 32 := 128#32
  let v2982 : BitVec 32 := Scalar.muli arg12 c128_i32
  let v2983 : BitVec 32 := v2982
  let v2988 : Index := Scalar.indexCast v2983
  let c0_1251 : Index := 0#32
  ![1, v2988.toNat, 0]
def k0_off81 (k0_t14 : Fin k0_t14_loop.trips) : Fin 2 → Nat :=
  let c0_i32_1247 : BitVec 32 := 0#32
  let c1_i32_1249 : BitVec 32 := 1#32
  let arg12 : BitVec 32 := Scf.iv c0_i32_1247 c1_i32_1249 k0_t14
  let c128_i32 : BitVec 32 := 128#32
  let v2982 : BitVec 32 := Scalar.muli arg12 c128_i32
  let v2983 : BitVec 32 := v2982
  let v2993 : Index := Scalar.indexCast v2983
  let c3328_1252 : Index := 3328#32
  ![v2993.toNat, 3328]
def k0_off82 (k0_t14 : Fin k0_t14_loop.trips) : Fin 2 → Nat :=
  let c0_i32_1247 : BitVec 32 := 0#32
  let c1_i32_1249 : BitVec 32 := 1#32
  let arg12 : BitVec 32 := Scf.iv c0_i32_1247 c1_i32_1249 k0_t14
  let v2997 : Index := Scalar.indexCast arg12
  let c27 : Index := 27#32
  ![v2997.toNat, 27]
def k0_off83 (k0_t14 : Fin k0_t14_loop.trips) : Fin 3 → Nat :=
  let c1_1253 : Index := 1#32
  let c0_i32_1247 : BitVec 32 := 0#32
  let c1_i32_1249 : BitVec 32 := 1#32
  let arg12 : BitVec 32 := Scf.iv c0_i32_1247 c1_i32_1249 k0_t14
  let c128_i32 : BitVec 32 := 128#32
  let v2982 : BitVec 32 := Scalar.muli arg12 c128_i32
  let v2983 : BitVec 32 := v2982
  let v3001 : Index := Scalar.indexCast v2983
  let c128_1254 : Index := 128#32
  ![1, v3001.toNat, 128]
def k0_off84 (k0_t14 : Fin k0_t14_loop.trips) : Fin 2 → Nat :=
  let c0_i32_1247 : BitVec 32 := 0#32
  let c1_i32_1249 : BitVec 32 := 1#32
  let arg12 : BitVec 32 := Scf.iv c0_i32_1247 c1_i32_1249 k0_t14
  let c128_i32 : BitVec 32 := 128#32
  let v2982 : BitVec 32 := Scalar.muli arg12 c128_i32
  let v2983 : BitVec 32 := v2982
  let v3006 : Index := Scalar.indexCast v2983
  let c3456_1255 : Index := 3456#32
  ![v3006.toNat, 3456]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S37x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4736 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x37 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x1024x4736 : Shape := ⟨3, ![3, 1024, 4736]⟩
abbrev S4736x3584 : Shape := ⟨2, ![4736, 3584]⟩
abbrev S37x28 : Shape := ⟨2, ![37, 28]⟩
abbrev S3072x4736 : Shape := ⟨2, ![3072, 4736]⟩
abbrev S3072x1792 : Shape := ⟨2, ![3072, 1792]⟩
abbrev S3072x14 : Shape := ⟨2, ![3072, 14]⟩
abbrev S3072x37 : Shape := ⟨2, ![3072, 37]⟩
abbrev S3072x37x128 : Shape := ⟨3, ![3072, 37, 128]⟩
abbrev S3072x37x1 : Shape := ⟨3, ![3072, 37, 1]⟩
abbrev S37x128x28x128 : Shape := ⟨4, ![37, 128, 28, 128]⟩
abbrev S37x1x28x1 : Shape := ⟨4, ![37, 1, 28, 1]⟩
abbrev S3072x3584 : Shape := ⟨2, ![3072, 3584]⟩
abbrev S3072x14x128 : Shape := ⟨3, ![3072, 14, 128]⟩
abbrev S3072x14x1 : Shape := ⟨3, ![3072, 14, 1]⟩

abbrev nBuf : Space → Nat
  | .hbm => 8
  | .vmem => 7
  | .smem => 0
  | _ => 0

abbrev bufTy : (tb : Table) → Fin (tcTables nBuf tb) → BufTy
  | .hbm, ⟨0, _⟩ => ⟨S3x1024x4736, .bf16⟩
  | .hbm, ⟨1, _⟩ => ⟨S4736x3584, .fp8e4m3⟩
  | .hbm, ⟨2, _⟩ => ⟨S37x28, .f32⟩
  | .hbm, ⟨3, _⟩ => ⟨S3072x4736, .bf16⟩
  | .hbm, ⟨4, _⟩ => ⟨S3072x1792, .fp8e4m3⟩
  | .hbm, ⟨5, _⟩ => ⟨S3072x14, .f32⟩
  | .hbm, ⟨6, _⟩ => ⟨S3072x4736, .fp8e4m3⟩
  | .hbm, ⟨7, _⟩ => ⟨S3072x37, .f32⟩
  | .local _ .vmem, ⟨0, _⟩ => ⟨S3072x4736, .bf16⟩
  | .local _ .vmem, ⟨1, _⟩ => ⟨S4736x3584, .fp8e4m3⟩
  | .local _ .vmem, ⟨2, _⟩ => ⟨S37x28, .f32⟩
  | .local _ .vmem, ⟨3, _⟩ => ⟨S3072x1792, .fp8e4m3⟩
  | .local _ .vmem, ⟨4, _⟩ => ⟨S3072x14, .f32⟩
  | .local _ .vmem, ⟨5, _⟩ => ⟨S3072x4736, .fp8e4m3⟩
  | .local _ .vmem, ⟨6, _⟩ => ⟨S3072x37, .f32⟩
  | _, _ => ⟨S3x1024x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x4736 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4736x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S37x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x4736 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x37 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/- The kernel's body over its own blocks: a fill of the widened weights, a loop over the 37 column groups of `x` and a
   loop over the 7 tiles of product columns, each stated once at a general index. The printed body lists every one of
   these separately; `geglu_eq` says that it is the list spelt out. -/
module

public import proofs.«01_k».proof.Proof.Gen.KernelIdeal.Skeleton
public import proofs.«01_k».proof.Proof.Gen.KernelIdeal.Frame

@[expose] public section

set_option maxRecDepth 65536

noncomputable section

namespace Cert.KernelIdeal.Hand

open Idealize.ShloMosaic Idealize.SL.Sem Cert.KernelIdeal Cert.KernelIdeal.Gen

variable {F : FTy → Type} [FloatOps F]

/-! ## The values -/

/-- For each row, the word of the power of two below which the row's greatest magnitude lies, the one for which
    `448` times it is not exceeded: the greatest threshold not above `max / 448`, one exponent up. -/
def scaleWord (v : FVec F S256x128 .f32) : IVec S256x1 32 :=
  have q : FVec F S256x1 .f32 := mulf (shapeCast S256x1 (multiReduction .maximumf [1] S256 (absf v) 0xFF800000#32 reduces_S256x128_S256 (.inl rfl) rfl) shapeCasts_S256_S256x1)
    (broadcast S256x1 (Scalar.ofBits .f32 0x3B124925#32))
  have field : IVec S256x256 32 := shli (iota .tc S256x256 32 [1] iota_S256x256_d1_w32) (broadcast S256x256 23#32)
  have word : IVec S256x256 32 := select (cmpi .slt field (broadcast S256x256 2122317824#32)) field (broadcast S256x256 2139095040#32)
  have best : IVec S256x1 32 := shapeCast S256x1 (multiReductionI .maxsi [1] S256
    (select (cmpf .oge (broadcastTo S256x256 q broadcasts_S256x1_S256x256) (bitcastToFloat .f32 field)) word (broadcast S256x256 0#32))
    2147483648#32 reduces_S256x256_S256 rfl) shapeCasts_S256_S256x1
  select (ori (cmpi .eq best (broadcast S256x1 0#32)) (cmpi .eq best (broadcast S256x1 2139095040#32)))
    (broadcast S256x1 1065353216#32) (addi best (broadcast S256x1 8388608#32))

/-- The scale of each row. -/
def scaleOf (v : FVec F S256x128 .f32) : FVec F S256x1 .f32 := bitcastToFloat .f32 (scaleWord v)

/-- The reciprocal of each row's scale, on every lane. -/
def invOf (v : FVec F S256x128 .f32) : FVec F S256x128 .f32 :=
  broadcastTo S256x128 (bitcastToFloat .f32 (subi (broadcast S256x1 2130706432#32) (scaleWord v))) broadcasts_S256x1_S256x128

/-- The fp8 codes of a group of 128 columns. -/
def codesOf (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (mulf v (invOf v)))) bitsLt_fp8e4m3_f32

/-- The group of 128 columns of `x` as f32. -/
def xF32 (v : Vec F S256x128 .bf16) : FVec F S256x128 .f32 :=
  extf .f32 (shapeCast S256x128 v shapeCasts_S256x128_S256x128) bitsLt_bf16_f32

/-- The codes times their scales, in bf16. -/
def widenOf (v : FVec F S256x128 .f32) : FVec F S256x128 .bf16 :=
  shapeCast S256x128 (mulf (extf .bf16 (codesOf v) bitsLt_fp8e4m3_bf16)
    (broadcastTo S256x128 (truncf .bf16 (scaleOf v) bitsLt_bf16_f32) broadcasts_S256x1_S256x128)) shapeCasts_S256x128_S256x128

/-- The scales of `x`'s groups so far, with group `g`'s put in lane `g`. -/
def xsStep (g : Nat) (s : FVec F S256x1 .f32) (acc : FVec F S256x37 .f32) : FVec F S256x37 .f32 :=
  select (cmpi .eq (iota .tc S256x37 32 [1] iota_S256x37_d1_w32) (broadcast S256x37 (BitVec.ofNat 32 g)))
    (broadcastTo S256x37 (shapeCast S256x1 s shapeCasts_S256x1_S256x1) broadcasts_S256x1_S256x37) acc

/-- The scales of the result's groups so far, with group `n`'s put in lane `n`. -/
def hsStep (n : Nat) (s : FVec F S256x1 .f32) (acc : FVec F S256x14 .f32) : FVec F S256x14 .f32 :=
  select (cmpi .eq (iota .tc S256x14 32 [1] iota_S256x14_d1_w32) (broadcast S256x14 (BitVec.ofNat 32 n)))
    (broadcastTo S256x14 (shapeCast S256x1 s shapeCasts_S256x1_S256x1) broadcasts_S256x1_S256x14) acc

/-- The gated product of a tile: the tanh form of gelu of the gate, times the up product. -/
def gateOf (a : Vec F S256x4736 .bf16) (b : Vec F S4736x256 .bf16) (a' : Vec F S256x4736 .bf16) (b' : Vec F S4736x256 .bf16) : FVec F S256x256 .f32 :=
  have g : FVec F S256x256 .f32 := matmul dot_S256x4736_S4736x256_S256x256_1_0_0_1_n_n none a b (constant S256x256 .f32 0x00000000#32)
  have u : FVec F S256x256 .f32 := matmul dot_S256x4736_S4736x256_S256x256_1_0_0_1_n_n none a' b' (constant S256x256 .f32 0x00000000#32)
  have th : FVec F S256x256 .f32 := tanh (mulf (broadcast S256x256 (Scalar.ofBits .f32 0x3F4C422A#32))
    (addf g (mulf (broadcast S256x256 (Scalar.ofBits .f32 0x3D372713#32)) (mulf (mulf g g) g))))
  mulf (mulf g (mulf (broadcast S256x256 (Scalar.ofBits .f32 0x3F000000#32)) (addf (broadcast S256x256 (Scalar.ofBits .f32 0x3F800000#32)) th))) u

theorem slices_half (t : Nat) (h : t < 2) : S256x256.Slices ![0, 128 * t] S256x128 := by
  obtain rfl | rfl : t = 0 ∨ t = 1 := by omega
  all_goals decide

/-- The `t`-th half of a tile: a group of 128 columns. -/
def halfOf (t : Nat) (ht : t < 2) (h : FVec F S256x256 .f32) : FVec F S256x128 .f32 :=
  extractStridedSlice S256x128 ![0, 128 * t] h (slices_half t ht)

/-- A block of 128 × 128 weights times its scale, in bf16. -/
def weightOf (s : Elt F .f32) (b : Vec F S1x128x128 .fp8e4m3) : FVec F S128x128 .bf16 :=
  shapeCast S128x128 (mulf (extf .bf16 (shapeCast S128x128 b shapeCasts_S1x128x128_S128x128) bitsLt_fp8e4m3_bf16)
    (truncf .bf16 (broadcast S128x128 s) bitsLt_bf16_f32)) shapeCasts_S128x128_S128x128

/-! ## The places -/

/-- The trips of the loop over a chunk's 37 row blocks, -/
abbrev rowTrips : Nat := k0_t1_loop.trips

/-- the row of scales a trip reads, -/
def kIdx (k : Nat) : Nat := (Scalar.indexCast (Scf.iv 0#32 1#32 k) : Index).toNat
/-- and the first of its 128 rows of weights. -/
def kRow (k : Nat) : Nat := (Scalar.indexCast (Scalar.muli (Scf.iv 0#32 1#32 k) 128#32) : Index).toNat

theorem rowTrips_eq : rowTrips = 37 := by decide +kernel

theorem kIdx_eq (k : Fin rowTrips) : kIdx k.val = k.val := by
  revert k; decide +kernel
theorem kRow_eq (k : Fin rowTrips) : kRow k.val = 128 * k.val := by
  revert k; decide +kernel
theorem lt37 (k : Fin rowTrips) : k.val < 37 := rowTrips_eq ▸ k.isLt

section
variable {c h k : Nat}

theorem inb_scale (hc : c < 14) (hh : h < 2) (hk : k < 37) : ∀ a, (![k, 2 * c + h] : Fin 2 → Nat) a + S1x1.size a ≤ S37x28.size a := by
  intro a; fin_cases a <;> simp <;> omega
theorem inb_slot (hc : c < 14) (hh : h < 2) (hk : k < 37) : ∀ a, (![c % 2, 128 * k, 128 * h] : Fin 3 → Nat) a + S1x128x128.size a ≤ S2x4736x256.size a := by
  intro a; fin_cases a <;> simp <;> omega
theorem inb_wide (hc : c < 14) (hh : h < 2) (hk : k < 37) : ∀ a, (![128 * k, 256 * c + 128 * h] : Fin 2 → Nat) a + S128x128.size a ≤ S4736x3584.size a := by
  intro a; fin_cases a <;> simp <;> omega
/-- A whole number of packed rows: the row offset and the row count are. -/
theorem packed_row {s : Shape} {p : Nat} (r : Rect s) (h2 : 2 ≤ s.rank) {o n : Nat} (ho : p ∣ o) (hn : p ∣ n) (e0 : r.off (s.rowAx h2) = o := by rfl)
    (e1 : r.size (s.rowAx h2) = n := by rfl) (e2 : r.stride (s.rowAx h2) = 1 := by rfl) : r.PackedRows p :=
  .inr ⟨h2, e2, .inl ⟨e0 ▸ ho, e1 ▸ hn⟩⟩

theorem packed_wide (off : Fin 2 → Nat) (inb : ∀ a, off a + S128x128.size a ≤ S4736x3584.size a) (h0 : 128 ∣ off 0) :
    (Rect.unit (s := S4736x3584) off S128x128.size inb).PackedRows (EltTy.packing .bf16) :=
  packed_row _ (by decide) (o := off 0) (n := 128) (Dvd.dvd.trans (by decide) h0) (by decide)

theorem inb_stage (hc : c < 14) : ∀ a, (![c % 2, 0, 0] : Fin 3 → Nat) a + S1x4736x256.size a ≤ S2x4736x256.size a := by
  intro a; fin_cases a <;> simp <;> omega
theorem words_stage (hc : c < 14) : (Rect.unit (s := S2x4736x256) ![c % 2, 0, 0] S1x4736x256.size (inb_stage hc)).WholeWords (EltTy.packing .fp8e4m3) :=
  .inr ⟨by decide, rfl, rfl, rfl⟩
theorem inb_cell (hc : c < 14) : ∀ a, (![c % 2] : Fin 1 → Nat) a + S1.size a ≤ S2.size a := by
  intro a; fin_cases a; simp; omega
theorem inb_cols (hc : c < 14) : ∀ a, (![0, 256 * c] : Fin 2 → Nat) a + S4736x256.size a ≤ S4736x3584.size a := by
  intro a; fin_cases a <;> simp; omega
theorem words_cols (hc : c < 14) : (Rect.unit (s := S4736x3584) ![0, 256 * c] S4736x256.size (inb_cols hc)).WholeWords (EltTy.packing .fp8e4m3) :=
  .inr ⟨by decide, rfl, rfl, rfl⟩

theorem inb_xgroup {g : Nat} (hg : g < 37) : ∀ a, (![0, 128 * g] : Fin 2 → Nat) a + S256x128.size a ≤ S256x4736.size a := by
  intro a; fin_cases a <;> simp; omega
theorem packed_xcodes {g : Nat} (hg : g < 37) : (Rect.unit (s := S256x4736) ![0, 128 * g] S256x128.size (inb_xgroup hg)).PackedRows (EltTy.packing .fp8e4m3) :=
  packed_row _ (by decide) (n := 256) (dvd_zero _) (by decide)
theorem packed_xwide {g : Nat} (hg : g < 37) : (Rect.unit (s := S256x4736) ![0, 128 * g] S256x128.size (inb_xgroup hg)).PackedRows (EltTy.packing .bf16) :=
  packed_row _ (by decide) (n := 256) (dvd_zero _) (by decide)
theorem inb_hgroup {n : Nat} (hn : n < 14) : ∀ a, (![0, 128 * n] : Fin 2 → Nat) a + S256x128.size a ≤ S256x1792.size a := by
  intro a; fin_cases a <;> simp; omega
theorem packed_hcodes {n : Nat} (hn : n < 14) : (Rect.unit (s := S256x1792) ![0, 128 * n] S256x128.size (inb_hgroup hn)).PackedRows (EltTy.packing .fp8e4m3) :=
  packed_row _ (by decide) (n := 256) (dvd_zero _) (by decide)
theorem inb_up {j : Nat} (hj : j < 7) : ∀ a, (![0, 1792 + 256 * j] : Fin 2 → Nat) a + S4736x256.size a ≤ S4736x3584.size a := by
  intro a; fin_cases a <;> simp; omega
theorem inb_gate {j : Nat} (hj : j < 7) : ∀ a, (![0, 256 * j] : Fin 2 → Nat) a + S4736x256.size a ≤ S4736x3584.size a := by
  intro a; fin_cases a <;> simp; omega

end

/-! ## The body -/

section
variable (arg1 : Memref sig .tc .smem S37x28 .f32) (arg2 : Memref sig .tc .vmem S256x4736 .bf16)
  (arg3 : Memref sig .tc .hbm S4736x3584 .fp8e4m3) (harg3 : arg3.IsWhole)
  (arg4 : Memref sig .tc .vmem S256x1792 .fp8e4m3) (harg4 : arg4.IsWhole) (arg5 : Memref sig .tc .vmem S256x14 .f32)
  (arg6 : Memref sig .tc .vmem S256x4736 .fp8e4m3) (harg6 : arg6.IsWhole) (arg7 : Memref sig .tc .vmem S256x37 .f32)
  (arg8 : Memref sig .tc .vmem S4736x3584 .bf16) (harg8 : arg8.IsWhole)
  (arg9 : Memref sig .tc .vmem S2x4736x256 .fp8e4m3) (harg9 : arg9.IsWhole)
  (arg10 : Memref sig .tc .vmem S256x4736 .bf16) (harg10 : arg10.IsWhole) (arg11 : DmaSems sig S2)

/-- The slot chunk `c` is copied to, -/
abbrev stageOf (c : Nat) (hc : c < 14) : Memref sig .tc .vmem S4736x256 .fp8e4m3 :=
  (arg9.slice (Rect.unit (s := S2x4736x256) ![c % 2, 0, 0] S1x4736x256.size (inb_stage hc)) (fun _ => rfl)).squeeze S4736x256 squeezes_S1x4736x256_S4736x256
/-- the cell that counts it, -/
abbrev cellOf (c : Nat) (hc : c < 14) : DmaSems sig S_ :=
  (arg11.slice (Rect.unit (s := S2) ![c % 2] S1.size (inb_cell hc))).squeeze S_ squeezes_S1_S_
/-- and the 256 columns of the weights copied. -/
abbrev colsOf (c : Nat) (hc : c < 14) : Memref sig .tc .hbm S4736x256 .fp8e4m3 :=
  arg3.slice (Rect.unit (s := S4736x3584) ![0, 256 * c] S4736x256.size (inb_cols hc)) (fun _ => rfl)

/-- Start the copy of chunk `c`. -/
def startCopy (c : Nat) (hc : c < 14) : Prog (TpuEff nD τ sig (Elt F) Λ₀ .tc) PUnit :=
  Prog.lift (.enqueueDma (colsOf arg3 c hc) (.here (stageOf arg9 c hc)) (.dma (cellOf arg11 c hc).sem)
    (harg3.wordExact_slice rfl _ (words_cols hc)) ((harg9.wordExact_slice rfl _ (words_stage hc)).reshape _ _) ⟨Or.inl rfl, trivial⟩)

/-- Wait for the copy of chunk `c`. -/
def waitCopy (c : Nat) (hc : c < 14) : Prog (TpuEff nD τ sig (Elt F) Λ₀ .tc) PUnit :=
  Prog.lift (.waitDma2 (cellOf arg11 c hc).sem (colsOf arg3 c hc) (stageOf arg9 c hc)
    (harg3.wordExact_slice rfl _ (words_cols hc)) ((harg9.wordExact_slice rfl _ (words_stage hc)).reshape _ _))

/-- Widen one block of 128 × 128 weights: column half `h` of chunk `c`, row block `k`. -/
def widenBlock (c : Nat) (hc : c < 14) (h : Nat) (hh : h < 2) (k : Fin rowTrips) : Prog (TpuEff nD τ sig (Elt F) Λ₀ .tc) PUnit := do
  let s : Elt F .f32 ← smemLoad arg1 (Rect.unit (s := S37x28) ![kIdx k.val, 2 * c + h] S1x1.size ((kIdx_eq k).symm ▸ inb_scale hc hh (lt37 k))) numel1_S1x1 rfl
  let b : Vec F S1x128x128 .fp8e4m3 ← Prog.lift (.load arg9 (Rect.unit (s := S2x4736x256) ![c % 2, kRow k.val, 128 * h] S1x128x128.size ((kRow_eq k).symm ▸ inb_slot hc hh (lt37 k))).toLoadRect (View.loadsAt_vmem h_S1x128x128))
  let _ : Vec F S128x128 .bf16 ← Prog.lift (.load arg8 (Rect.unit (s := S4736x3584) ![kRow k.val, 256 * c + 128 * h] S128x128.size ((kRow_eq k).symm ▸ inb_wide hc hh (lt37 k))).toLoadRect (View.loadsAt_vmem h_S128x128))
  Prog.lift (.store arg8 (Rect.unit (s := S4736x3584) ![kRow k.val, 256 * c + 128 * h] S128x128.size ((kRow_eq k).symm ▸ inb_wide hc hh (lt37 k))) (weightOf s b) Finset.univ
    (View.stores_vmem h_S128x128 (harg8.storeExact_slice rfl _ (packed_wide _ _ ⟨k.val, kRow_eq k⟩)) (fun _ => rfl)) (.inl rfl))

/-- Widen both halves of row block `k` of chunk `c`. -/
def widenTrip (c : Nat) (hc : c < 14) (k : Fin rowTrips) (_ : Unit) : Prog (TpuEff nD τ sig (Elt F) Λ₀ .tc) Unit := do
  widenBlock arg1 arg8 harg8 arg9 c hc 0 (by decide) k
  widenBlock arg1 arg8 harg8 arg9 c hc 1 (by decide) k
  pure ⟨⟩

/-- Widen chunk `c`. -/
def widenChunk (c : Nat) (hc : c < 14) : Prog (TpuEff nD τ sig (Elt F) Λ₀ .tc) Unit :=
  Scf.Loop.for k0_t1_loop k0_t1_abs.1 ⟨⟩ (widenTrip arg1 arg8 harg8 arg9 c hc)

/-- Start the next chunk's copy if there is one. -/
def startNext (c : Nat) : Prog (TpuEff nD τ sig (Elt F) Λ₀ .tc) PUnit :=
  if hc : c < 14 then startCopy arg3 harg3 arg9 harg9 arg11 c hc else pure ⟨⟩

/-- The chunks from `c` on: the next one's copy is started, this one's awaited, its blocks widened. -/
def fillFrom : (n c : Nat) → c + n = 14 → Prog (TpuEff nD τ sig (Elt F) Λ₀ .tc) PUnit
  | 0, _, _ => pure ⟨⟩
  | n + 1, c, h => do
    startNext arg3 harg3 arg9 harg9 arg11 (c + 1)
    waitCopy arg3 harg3 arg9 harg9 arg11 c (by omega)
    widenChunk arg1 arg8 harg8 arg9 c (by omega)
    fillFrom n (c + 1) (by omega)

/-- The fill of the widened weights. -/
def fill : Prog (TpuEff nD τ sig (Elt F) Λ₀ .tc) PUnit := do
  startCopy arg3 harg3 arg9 harg9 arg11 0 (by decide)
  fillFrom arg1 arg3 harg3 arg8 harg8 arg9 harg9 arg11 14 0 (by decide)

/-- One group of 128 columns of `x`: its codes, their widened values, its scales into lane `g`. -/
def xGroup (g : Nat) (hg : g < 37) (acc : FVec F S256x37 .f32) : Prog (TpuEff nD τ sig (Elt F) Λ₀ .tc) (FVec F S256x37 .f32) := do
  let v : Vec F S256x128 .bf16 ← Prog.lift (.load arg2 (Rect.unit (s := S256x4736) ![0, 128 * g] S256x128.size (inb_xgroup hg)).toLoadRect (View.loadsAt_vmem h_S256x128))
  let _ : Vec F S256x128 .fp8e4m3 ← Prog.lift (.load arg6 (Rect.unit (s := S256x4736) ![0, 128 * g] S256x128.size (inb_xgroup hg)).toLoadRect (View.loadsAt_vmem h_S256x128))
  Prog.lift (.store arg6 (Rect.unit (s := S256x4736) ![0, 128 * g] S256x128.size (inb_xgroup hg)) (codesOf (xF32 v)) Finset.univ
    (View.stores_vmem h_S256x128 (harg6.storeExact_slice rfl _ (packed_xcodes hg)) (fun _ => rfl)) (.inl rfl))
  let _ : Vec F S256x128 .bf16 ← Prog.lift (.load arg10 (Rect.unit (s := S256x4736) ![0, 128 * g] S256x128.size (inb_xgroup hg)).toLoadRect (View.loadsAt_vmem h_S256x128))
  Prog.lift (.store arg10 (Rect.unit (s := S256x4736) ![0, 128 * g] S256x128.size (inb_xgroup hg)) (widenOf (xF32 v)) Finset.univ
    (View.stores_vmem h_S256x128 (harg10.storeExact_slice rfl _ (packed_xwide hg)) (fun _ => rfl)) (.inl rfl))
  pure (xsStep g (scaleOf (xF32 v)) acc)

/-- The groups of `x` from `g` on. -/
def xFrom : (n g : Nat) → g + n = 37 → FVec F S256x37 .f32 → Prog (TpuEff nD τ sig (Elt F) Λ₀ .tc) (FVec F S256x37 .f32)
  | 0, _, _, acc => pure acc
  | n + 1, g, h, acc => do
    let acc' ← xGroup arg2 arg6 harg6 arg10 harg10 g (by omega) acc
    xFrom n (g + 1) (by omega) acc'

/-- Group `n` of the result, `v`: its codes, its scales into lane `n`. -/
def hGroup (n : Nat) (hn : n < 14) (v : FVec F S256x128 .f32) (acc : FVec F S256x14 .f32) : Prog (TpuEff nD τ sig (Elt F) Λ₀ .tc) (FVec F S256x14 .f32) := do
  let _ : Vec F S256x128 .fp8e4m3 ← Prog.lift (.load arg4 (Rect.unit (s := S256x1792) ![0, 128 * n] S256x128.size (inb_hgroup hn)).toLoadRect (View.loadsAt_vmem h_S256x128))
  Prog.lift (.store arg4 (Rect.unit (s := S256x1792) ![0, 128 * n] S256x128.size (inb_hgroup hn)) (codesOf v) Finset.univ
    (View.stores_vmem h_S256x128 (harg4.storeExact_slice rfl _ (packed_hcodes hn)) (fun _ => rfl)) (.inl rfl))
  pure (hsStep n (scaleOf v) acc)

/-- One tile of 256 columns of the result: the two products, the gate, the two groups of 128. -/
def tile (j : Nat) (hj : j < 7) (acc : FVec F S256x14 .f32) : Prog (TpuEff nD τ sig (Elt F) Λ₀ .tc) (FVec F S256x14 .f32) := do
  let a : Vec F S256x4736 .bf16 ← Prog.lift (.load arg10 (Rect.unit (s := S256x4736) ![0, 0] S256x4736.size inb_S256x4736_S256x4736_0_0).toLoadRect (View.loadsAt_vmem h_S256x4736))
  let b : Vec F S4736x256 .bf16 ← Prog.lift (.load arg8 (Rect.unit (s := S4736x3584) ![0, 256 * j] S4736x256.size (inb_gate hj)).toLoadRect (View.loadsAt_vmem h_S4736x256))
  let a' : Vec F S256x4736 .bf16 ← Prog.lift (.load arg10 (Rect.unit (s := S256x4736) ![0, 0] S256x4736.size inb_S256x4736_S256x4736_0_0).toLoadRect (View.loadsAt_vmem h_S256x4736))
  let b' : Vec F S4736x256 .bf16 ← Prog.lift (.load arg8 (Rect.unit (s := S4736x3584) ![0, 1792 + 256 * j] S4736x256.size (inb_up hj)).toLoadRect (View.loadsAt_vmem h_S4736x256))
  let acc' ← hGroup arg4 harg4 (2 * j) (by omega) (halfOf 0 (by decide) (gateOf a b a' b')) acc
  hGroup arg4 harg4 (2 * j + 1) (by omega) (halfOf 1 (by decide) (gateOf a b a' b')) acc'

/-- The tiles of the result from `j` on. -/
def tilesFrom : (n j : Nat) → j + n = 7 → FVec F S256x14 .f32 → Prog (TpuEff nD τ sig (Elt F) Λ₀ .tc) (FVec F S256x14 .f32)
  | 0, _, _, acc => pure acc
  | n + 1, j, h, acc => do
    let acc' ← tile arg4 harg4 arg8 arg10 j (by omega) acc
    tilesFrom n (j + 1) (by omega) acc'

/-- The body after the fill. -/
def lines : Prog (TpuEff nD τ sig (Elt F) Λ₀ .tc) PUnit := do
  let xs ← xFrom arg2 arg6 harg6 arg10 harg10 37 0 (by decide) (broadcast S256x37 (Scalar.ofBits .f32 0x00000000#32))
  let _ : Vec F S256x37 .f32 ← Prog.lift (.load arg7 (Rect.unit (s := S256x37) ![0, 0] S256x37.size inb_S256x37_S256x37_0_0).toLoadRect (View.loadsAt_vmem h_S256x37))
  Prog.lift (.store arg7 (Rect.unit (s := S256x37) ![0, 0] S256x37.size inb_S256x37_S256x37_0_0) xs Finset.univ (View.stores_vmem_bits_univ h_S256x37 rfl) (.inl rfl))
  let hs ← tilesFrom arg4 harg4 arg8 arg10 7 0 (by decide) (broadcast S256x14 (Scalar.ofBits .f32 0x00000000#32))
  let _ : Vec F S256x14 .f32 ← Prog.lift (.load arg5 (Rect.unit (s := S256x14) ![0, 0] S256x14.size inb_S256x14_S256x14_0_0).toLoadRect (View.loadsAt_vmem h_S256x14))
  Prog.lift (.store arg5 (Rect.unit (s := S256x14) ![0, 0] S256x14.size inb_S256x14_S256x14_0_0) hs Finset.univ (View.stores_vmem_bits_univ h_S256x14 rfl) (.inl rfl))

end

/-- The whole body: at the first point the weights are filled in; at every point the block's lines are computed. -/
def body (i : grid0.Coords) (arg1 : Memref sig .tc .smem S37x28 .f32) (arg2 : Memref sig .tc .vmem S256x4736 .bf16)
    (arg3 : Memref sig .tc .hbm S4736x3584 .fp8e4m3) (harg3 : arg3.IsWhole)
    (arg4 : Memref sig .tc .vmem S256x1792 .fp8e4m3) (harg4 : arg4.IsWhole) (arg5 : Memref sig .tc .vmem S256x14 .f32)
    (arg6 : Memref sig .tc .vmem S256x4736 .fp8e4m3) (harg6 : arg6.IsWhole) (arg7 : Memref sig .tc .vmem S256x37 .f32)
    (arg8 : Memref sig .tc .vmem S4736x3584 .bf16) (harg8 : arg8.IsWhole)
    (arg9 : Memref sig .tc .vmem S2x4736x256 .fp8e4m3) (harg9 : arg9.IsWhole)
    (arg10 : Memref sig .tc .vmem S256x4736 .bf16) (harg10 : arg10.IsWhole) (arg11 : DmaSems sig S2) :
    Prog (TpuEff nD τ sig (Elt F) Λ₀ .tc) PUnit := do
  if _h : k0_cond1 i = 1#1 then fill arg1 arg3 harg3 arg8 harg8 arg9 harg9 arg11 else pure ⟨⟩
  lines arg2 arg4 harg4 arg5 arg6 harg6 arg7 arg8 arg10 harg10

/-! ## The printed body is this body -/

section
variable (i : grid0.Coords) (arg1 : Memref sig .tc .smem S37x28 .f32) (harg1 : arg1.IsWhole) (arg2 : Memref sig .tc .vmem S256x4736 .bf16) (harg2 : arg2.IsWhole)
    (arg3 : Memref sig .tc .hbm S4736x3584 .fp8e4m3) (harg3 : arg3.IsWhole)
    (arg4 : Memref sig .tc .vmem S256x1792 .fp8e4m3) (harg4 : arg4.IsWhole) (arg5 : Memref sig .tc .vmem S256x14 .f32) (harg5 : arg5.IsWhole)
    (arg6 : Memref sig .tc .vmem S256x4736 .fp8e4m3) (harg6 : arg6.IsWhole) (arg7 : Memref sig .tc .vmem S256x37 .f32) (harg7 : arg7.IsWhole)
    (arg8 : Memref sig .tc .vmem S4736x3584 .bf16) (harg8 : arg8.IsWhole)
    (arg9 : Memref sig .tc .vmem S2x4736x256 .fp8e4m3) (harg9 : arg9.IsWhole)
    (arg10 : Memref sig .tc .vmem S256x4736 .bf16) (harg10 : arg10.IsWhole) (arg11 : DmaSems sig S2)

/-- Two chunks, each awaited, widened, and its slot's next copy started. -/
def twoChunks (c : Nat) (hc : c + 3 < 14) : Prog (TpuEff nD τ sig (Elt F) Λ₀ .tc) PUnit := do
  waitCopy arg3 harg3 arg9 harg9 arg11 c (by omega)
  widenChunk arg1 arg8 harg8 arg9 c (by omega)
  startCopy arg3 harg3 arg9 harg9 arg11 (c + 2) (by omega)
  waitCopy arg3 harg3 arg9 harg9 arg11 (c + 1) (by omega)
  widenChunk arg1 arg8 harg8 arg9 (c + 1) (by omega)
  startCopy arg3 harg3 arg9 harg9 arg11 (c + 3) hc
  pure ⟨⟩

variable (h : k0_cond1 i = 1#1)

theorem part1_eq : k0_part1 (F := F) i arg1 harg1 arg2 harg2 arg3 harg3 arg4 harg4 arg5 harg5 arg6 harg6 arg7 harg7 arg8 harg8 arg9 harg9 arg10 harg10 arg11 h = (do
    startCopy arg3 harg3 arg9 harg9 arg11 0 (by decide)
    startCopy arg3 harg3 arg9 harg9 arg11 1 (by decide)
    waitCopy arg3 harg3 arg9 harg9 arg11 0 (by decide)
    widenChunk arg1 arg8 harg8 arg9 0 (by decide)
    startCopy arg3 harg3 arg9 harg9 arg11 2 (by decide)
    pure ⟨⟩) := by chain_rfl
theorem part2_eq : k0_part2 (F := F) i arg1 harg1 arg2 harg2 arg3 harg3 arg4 harg4 arg5 harg5 arg6 harg6 arg7 harg7 arg8 harg8 arg9 harg9 arg10 harg10 arg11 h = twoChunks arg1 arg3 harg3 arg8 harg8 arg9 harg9 arg11 1 (by decide) := by chain_rfl
theorem part3_eq : k0_part3 (F := F) i arg1 harg1 arg2 harg2 arg3 harg3 arg4 harg4 arg5 harg5 arg6 harg6 arg7 harg7 arg8 harg8 arg9 harg9 arg10 harg10 arg11 h = twoChunks arg1 arg3 harg3 arg8 harg8 arg9 harg9 arg11 3 (by decide) := by chain_rfl
theorem part4_eq : k0_part4 (F := F) i arg1 harg1 arg2 harg2 arg3 harg3 arg4 harg4 arg5 harg5 arg6 harg6 arg7 harg7 arg8 harg8 arg9 harg9 arg10 harg10 arg11 h = twoChunks arg1 arg3 harg3 arg8 harg8 arg9 harg9 arg11 5 (by decide) := by chain_rfl
theorem part5_eq : k0_part5 (F := F) i arg1 harg1 arg2 harg2 arg3 harg3 arg4 harg4 arg5 harg5 arg6 harg6 arg7 harg7 arg8 harg8 arg9 harg9 arg10 harg10 arg11 h = twoChunks arg1 arg3 harg3 arg8 harg8 arg9 harg9 arg11 7 (by decide) := by chain_rfl
theorem part6_eq : k0_part6 (F := F) i arg1 harg1 arg2 harg2 arg3 harg3 arg4 harg4 arg5 harg5 arg6 harg6 arg7 harg7 arg8 harg8 arg9 harg9 arg10 harg10 arg11 h = twoChunks arg1 arg3 harg3 arg8 harg8 arg9 harg9 arg11 9 (by decide) := by chain_rfl
theorem part7_eq : k0_part7 (F := F) i arg1 harg1 arg2 harg2 arg3 harg3 arg4 harg4 arg5 harg5 arg6 harg6 arg7 harg7 arg8 harg8 arg9 harg9 arg10 harg10 arg11 h = (do
    waitCopy arg3 harg3 arg9 harg9 arg11 11 (by decide)
    widenChunk arg1 arg8 harg8 arg9 11 (by decide)
    startCopy arg3 harg3 arg9 harg9 arg11 13 (by decide)
    waitCopy arg3 harg3 arg9 harg9 arg11 12 (by decide)
    widenChunk arg1 arg8 harg8 arg9 12 (by decide)
    waitCopy arg3 harg3 arg9 harg9 arg11 13 (by decide)
    widenChunk arg1 arg8 harg8 arg9 13 (by decide)
    pure ⟨⟩) := by chain_rfl

/-- What follows the fill in the printed body's first part. -/
abbrev afterFill (arg2 : Memref sig .tc .vmem S256x4736 .bf16) : Prog (TpuEff nD τ sig (Elt F) Λ₀ .tc) (Σ' (v3 : IVec S256x37 32) (v4 : FVec F S256x37 .f32) (v7 : FVec F S256x128 .f32) (v38 : FVec F S256x1 .f32), FVec F S256x128 .f32) := do
  let v5 : Vec F S256x128 .bf16 ← Prog.lift (.load arg2 (Rect.unit (s := S256x4736) ![0, 0] S256x128.size inb_S256x4736_S256x128_0_0).toLoadRect (View.loadsAt_vmem h_S256x128))
  pure ⟨iota .tc S256x37 32 [1] iota_S256x37_d1_w32, k0_pay31 (F := F), k0_pay32 v5, k0_pay34 v5, k0_pay35 v5⟩

theorem part8_pos (h : k0_cond1 i = 1#1) : k0_part8 (F := F) i arg1 harg1 arg2 harg2 arg3 harg3 arg4 harg4 arg5 harg5 arg6 harg6 arg7 harg7 arg8 harg8 arg9 harg9 arg10 harg10 arg11 = (fill (F := F) arg1 arg3 harg3 arg8 harg8 arg9 harg9 arg11 >>= fun _ => afterFill arg2) := by
  rw [k0_part8_eq_skeleton]
  refine (dif_pos h).trans ?_
  rw [part1_eq, part2_eq, part3_eq, part4_eq, part5_eq, part6_eq, part7_eq]
  simp only [twoChunks, fill, fillFrom, startNext, bind_assoc, pure_bind, Nat.reduceAdd, Nat.reduceLT, dite_true, dite_false]

theorem part8_neg (h : ¬ k0_cond1 i = 1#1) : k0_part8 (F := F) i arg1 harg1 arg2 harg2 arg3 harg3 arg4 harg4 arg5 harg5 arg6 harg6 arg7 harg7 arg8 harg8 arg9 harg9 arg10 harg10 arg11 = afterFill arg2 := by
  rw [k0_part8_eq_skeleton]
  exact (dif_neg h)

end

/-- The printed body is `body`, spelt out. -/
theorem geglu_eq (i : grid0.Coords) (arg1 : Memref sig .tc .smem S37x28 .f32) (harg1 : arg1.IsWhole) (arg2 : Memref sig .tc .vmem S256x4736 .bf16) (harg2 : arg2.IsWhole)
    (arg3 : Memref sig .tc .hbm S4736x3584 .fp8e4m3) (harg3 : arg3.IsWhole)
    (arg4 : Memref sig .tc .vmem S256x1792 .fp8e4m3) (harg4 : arg4.IsWhole) (arg5 : Memref sig .tc .vmem S256x14 .f32) (harg5 : arg5.IsWhole)
    (arg6 : Memref sig .tc .vmem S256x4736 .fp8e4m3) (harg6 : arg6.IsWhole) (arg7 : Memref sig .tc .vmem S256x37 .f32) (harg7 : arg7.IsWhole)
    (arg8 : Memref sig .tc .vmem S4736x3584 .bf16) (harg8 : arg8.IsWhole)
    (arg9 : Memref sig .tc .vmem S2x4736x256 .fp8e4m3) (harg9 : arg9.IsWhole)
    (arg10 : Memref sig .tc .vmem S256x4736 .bf16) (harg10 : arg10.IsWhole) (arg11 : DmaSems sig S2) :
    cc0_geglu_skel (F := F) i arg1 harg1 arg2 harg2 arg3 harg3 arg4 harg4 arg5 harg5 arg6 harg6 arg7 harg7 arg8 harg8 arg9 harg9 arg10 harg10 arg11
      = body i arg1 arg2 arg3 harg3 arg4 harg4 arg5 arg6 harg6 arg7 arg8 harg8 arg9 harg9 arg10 harg10 arg11 := by
  unfold cc0_geglu_skel
  rw [k0_part75_eq_skeleton]
  unfold k0_part75_skel body
  by_cases h : k0_cond1 i = 1#1
  · rw [part8_pos (h := h), bind_assoc, bind_assoc, dif_pos h]
    refine bind_congr fun _ => ?_
    chain_rfl
  · rw [part8_neg (h := h), dif_neg h]
    chain_rfl

end Cert.KernelIdeal.Hand

end
-- ==== Proof.Part.lean ====
/- A buffer known in part: the memref's elements are held, and those on which a predicate holds read as a given function.
   A load of known elements gives the function's values, a store of the function's values adds to what is known. -/
module

public import proofs.«01_k».proof.Proof.Body
public import Idealize.ShloMosaic.Lib.Pipeline.Frame
public import Idealize.ShloMosaic.Lib.Tactic
public import Idealize.ShloMosaic.Lib.Transfers
public import Idealize.ShloMosaic.Lib.Scf

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Running a program of the TensorCore of device `c` to a postcondition. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The elements `S` of a memref's buffer are held at share `q`; the memref's elements where `D` holds read as `T`. -/
def part (c : Dev nD) {cs : CoreSpace} {s : Shape} {e : EltTy} (m : Memref sig .tc cs s e) (S : Finset (Idx (m.view.loc (c : Thread nD τ))))
    (q : PosShare TreeShare) (T : s.Idx → Elt F e) (D : s.Idx → Prop) : sProp 𝕄 :=
  iprop(∃ f, ⌜∀ y, D y → m.view.read (Elt F) f y = T y⌝ ∗ (m.view.loc (c : Thread nD τ) ↦[S]{q} f))

variable (c : Dev nD) {cs : CoreSpace} {s : Shape} {e : EltTy} {m : Memref sig .tc cs s e} {α : Type}
  {S : Finset (Idx (m.view.loc (c : Thread nD τ)))} {q : PosShare TreeShare} {T : s.Idx → Elt F e} {D D' : s.Idx → Prop}

/-- What is known may be read as another function that agrees with it, on fewer elements. -/
theorem part_mono {T' : s.Idx → Elt F e} (h : ∀ y, D' y → D y ∧ T y = T' y) : part c m S q T D ⊢ part c m S q T' D' := by
  unfold part
  iintro ⟨%f, %hf, H⟩
  iexists f
  isplitr
  · ipureintro; exact fun y hy => (hf y (h y hy).1).trans (h y hy).2
  iexact H

/-- A load of any elements of the buffer. -/
theorem part_load_any {Q : α → sProp 𝕄} {r : Rect s} {hl : m.view.LoadsAt r.toLoadRect} {k : (r.shape.Idx → Elt F e) → Prog (TpuEff nD τ sig (Elt F) Λ₀ .tc) α}
    (hS : (m.access r).set ⊆ S) :
    part c m S q T D ⊢ iprop((∀ v, part c m S q T D -∗ runs c (k v) Q) -∗ runs c (.op (.load m r.toLoadRect hl) k) Q) := by
  unfold part
  iintro ⟨%f, %hf, H⟩ Hk
  iapply (wp_load_rect Variants.none (c : Thread nD τ) none Set.univ (q := q) (f := f) hS) $$ H
  iintro H
  iapply Hk
  iexists f
  isplitr
  · ipureintro; exact hf
  iexact H

/-- A load of known elements gives the function's values. -/
theorem part_load {Q : α → sProp 𝕄} {r : Rect s} {hl : m.view.LoadsAt r.toLoadRect} {k : (r.shape.Idx → Elt F e) → Prog (TpuEff nD τ sig (Elt F) Λ₀ .tc) α}
    (hS : (m.access r).set ⊆ S) (hD : ∀ x, D (r.emb x)) :
    part c m S q T D ⊢ iprop((part c m S q T D -∗ runs c (k fun x => T (r.emb x)) Q) -∗ runs c (.op (.load m r.toLoadRect hl) k) Q) := by
  unfold part
  iintro ⟨%f, %hf, H⟩ Hk
  iapply (wp_load_rect Variants.none (c : Thread nD τ) none Set.univ (q := q) (f := f) hS) $$ H
  iintro H
  have he : (m.access r).read (Elt F) f = fun x => T (r.emb x) := funext fun x => hf _ (hD x)
  rw [he]
  iapply Hk
  iexists f
  isplitr
  · ipureintro; exact hf
  iexact H

/-- A store of the function's values adds the elements stored to those known. -/
theorem part_store {Q : α → sProp 𝕄} {r : Rect s} {w : r.shape.Idx → Elt F e} {hx : (m.access r).Stores Finset.univ} {hm : Finset.univ = Finset.univ ∨ ∀ a, r.stride a = 1}
    {k : PUnit → Prog (TpuEff nD τ sig (Elt F) Λ₀ .tc) α} (hS : (m.access r).set ⊆ S)
    (hw : ∀ x, w x = T (r.emb x)) (hD : ∀ y, D' y → y ∉ r.set → D y) :
    part c m S fullShare T D ⊢ iprop((part c m S fullShare T D' -∗ runs c (k ⟨⟩) Q) -∗ runs c (.op (.store m r w Finset.univ hx hm) k) Q) := by
  unfold part
  iintro ⟨%f, %hf, H⟩ Hk
  iapply (wp_store Variants.none (c : Thread nD τ) none Set.univ (w := w) (hx := hx) (hm := hm) (k := k) (Mk := Finset.univ) (f := f) hS) $$ H
  iintro H
  iapply Hk
  iexists (m.access r).write (Elt F) f w Finset.univ
  isplitr
  · ipureintro
    intro y hy
    by_cases h : y ∈ r.set
    · obtain ⟨x, -, rfl⟩ := Finset.mem_map.1 (r.map_emb_univ ▸ h)
      exact (View.read_writes_cons_emb m.view f r w [] x).trans (hw x)
    · exact (View.read_writes_cons_miss m.view f ⟨r, w⟩ [] y h).trans (hf y (hD y hy h))
  iexact H

/-! ### The same at the head of a `do` block -/

theorem load_any {Q : α → sProp 𝕄} {r : Rect s} {hl : m.view.LoadsAt r.toLoadRect} {k : (r.shape.Idx → Elt F e) → Prog (TpuEff nD τ sig (Elt F) Λ₀ .tc) α}
    (hS : (m.access r).set ⊆ S) :
    part c m S q T D ⊢ iprop((∀ v, part c m S q T D -∗ runs c (k v) Q) -∗ runs c (Prog.lift (.load m r.toLoadRect hl) >>= k) Q) :=
  part_load_any c hS
theorem load {Q : α → sProp 𝕄} {r : Rect s} {hl : m.view.LoadsAt r.toLoadRect} {k : (r.shape.Idx → Elt F e) → Prog (TpuEff nD τ sig (Elt F) Λ₀ .tc) α}
    (hS : (m.access r).set ⊆ S) (hD : ∀ x, D (r.emb x)) {v : r.shape.Idx → Elt F e} (hv : (fun x => T (r.emb x)) = v) :
    part c m S q T D ⊢ iprop((part c m S q T D -∗ runs c (k v) Q) -∗ runs c (Prog.lift (.load m r.toLoadRect hl) >>= k) Q) := by
  subst hv; exact part_load c hS hD
theorem store {Q : α → sProp 𝕄} {r : Rect s} {w : r.shape.Idx → Elt F e} {hx : (m.access r).Stores Finset.univ} {hm : Finset.univ = Finset.univ ∨ ∀ a, r.stride a = 1}
    {k : PUnit → Prog (TpuEff nD τ sig (Elt F) Λ₀ .tc) α} (hS : (m.access r).set ⊆ S)
    (hw : ∀ x, w x = T (r.emb x)) (hD : ∀ y, D' y → y ∉ r.set → D y) :
    part c m S fullShare T D ⊢ iprop((part c m S fullShare T D' -∗ runs c (k ⟨⟩) Q) -∗ runs c (Prog.lift (.store m r w Finset.univ hx hm) >>= k) Q) :=
  part_store c hS hw hD

/-- A program that ends. -/
theorem runs_pure {Q : α → sProp 𝕄} (a : α) : Q a ⊢ runs c (pure a) Q := le_wp_ret _ _ _ a Q
/-- A store that ends a program. -/
theorem store_last {Q : PUnit → sProp 𝕄} {r : Rect s} {w : r.shape.Idx → Elt F e} {hx : (m.access r).Stores Finset.univ} {hm : Finset.univ = Finset.univ ∨ ∀ a, r.stride a = 1}
    (hS : (m.access r).set ⊆ S) (hw : ∀ x, w x = T (r.emb x)) (hD : ∀ y, D' y → y ∉ r.set → D y) :
    part c m S fullShare T D ⊢ iprop((part c m S fullShare T D' -∗ Q ⟨⟩) -∗ runs c (Prog.lift (.store m r w Finset.univ hx hm)) Q) := by
  iintro H Hk
  iapply (part_store c (k := Prog.ret) (hx := hx) (hm := hm) hS hw hD) $$ H
  iintro H
  iapply (runs_pure c (PUnit.unit : PUnit))
  iapply Hk
  iexact H
/-- A program, then another. -/
theorem runs_bind {β : Type} {Q : β → sProp 𝕄} (p : Prog (TpuEff nD τ sig (Elt F) Λ₀ .tc) α) (k : α → Prog (TpuEff nD τ sig (Elt F) Λ₀ .tc) β) :
    runs c p (fun a => runs c (k a) Q) ⊢ runs c (p >>= k) Q := by
  unfold runs; rw [wp_bind]

end Cert.KernelIdeal.Hand

end
-- ==== Proof.Lines.lean ====
/- What the body computes from a block of `x` and the widened weights, and the triple that says so. -/
module

public import proofs.«01_k».proof.Proof.Part

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The block's results -/

/-- An index from its coordinates. -/
abbrev ix {s : Shape} (v : Fin s.rank → Nat) (h : ∀ a, v a < s.size a) : s.Idx := fun a => ⟨v a, h a⟩

/-- The place, in its group of 128 columns, of row `r` and column `j`. -/
def inGroup (r : Fin 256) (j : Nat) : S256x128.Idx :=
  ix ![r.val, j % 128] (by intro a; fin_cases a; exacts [r.isLt, Nat.mod_lt _ (by decide)])

section
variable (X : S256x4736.Idx → Elt F .bf16) (A : S256x4736.Idx → Elt F .bf16) (W : S4736x3584.Idx → Elt F .bf16)

/-- Group `g` of a block of `x`, -/
def xRaw (g : Nat) (hg : g < 37) : Vec F S256x128 .bf16 :=
  fun i => X ((Rect.unit (s := S256x4736) ![0, 128 * g] S256x128.size (inb_xgroup hg)).emb i)
/-- as f32. -/
abbrev xVec (g : Nat) (hg : g < 37) : FVec F S256x128 .f32 := xF32 (xRaw X g hg)

/-- The codes of a block of `x`, -/
def xCodes (y : S256x4736.Idx) : Elt F .fp8e4m3 :=
  codesOf (xVec X ((y 1).val / 128) (by have : (y 1).val < 4736 := (y 1).isLt; omega)) (inGroup (y 0) (y 1).val)
/-- the codes times their scales, -/
def xWide (y : S256x4736.Idx) : Elt F .bf16 :=
  widenOf (xVec X ((y 1).val / 128) (by have : (y 1).val < 4736 := (y 1).isLt; omega)) (inGroup (y 0) (y 1).val)
/-- and the scales, lane by lane from group `g` on. -/
def xScalesFrom : (n g : Nat) → g + n = 37 → FVec F S256x37 .f32 → FVec F S256x37 .f32
  | 0, _, _, acc => acc
  | n + 1, g, h, acc => xScalesFrom n (g + 1) (by omega) (xsStep g (scaleOf (xVec X g (by omega))) acc)
/-- All the scales of a block of `x`. -/
def xScales : FVec F S256x37 .f32 := xScalesFrom X 37 0 (by decide) (broadcast S256x37 (Scalar.ofBits .f32 0x00000000#32))

/-- Tile `j` of the gated product. -/
def tileVec (j : Nat) (hj : j < 7) : FVec F S256x256 .f32 :=
  gateOf (fun i => A ((Rect.unit (s := S256x4736) ![0, 0] S256x4736.size inb_S256x4736_S256x4736_0_0).emb i))
    (fun i => W ((Rect.unit (s := S4736x3584) ![0, 256 * j] S4736x256.size (inb_gate hj)).emb i))
    (fun i => A ((Rect.unit (s := S256x4736) ![0, 0] S256x4736.size inb_S256x4736_S256x4736_0_0).emb i))
    (fun i => W ((Rect.unit (s := S4736x3584) ![0, 1792 + 256 * j] S4736x256.size (inb_up hj)).emb i))

/-- Group `n` of the result. -/
def hVec (n : Nat) (hn : n < 14) : FVec F S256x128 .f32 :=
  halfOf (n % 2) (Nat.mod_lt _ (by decide)) (tileVec A W (n / 2) (by omega))

/-- The codes of the result, -/
def hCodes (y : S256x1792.Idx) : Elt F .fp8e4m3 :=
  codesOf (hVec A W ((y 1).val / 128) (by have : (y 1).val < 1792 := (y 1).isLt; omega)) (inGroup (y 0) (y 1).val)
/-- and its scales, lane by lane from tile `j` on. -/
def hScalesFrom : (n j : Nat) → j + n = 7 → FVec F S256x14 .f32 → FVec F S256x14 .f32
  | 0, _, _, acc => acc
  | n + 1, j, h, acc => hScalesFrom n (j + 1) (by omega)
      (hsStep (2 * j + 1) (scaleOf (hVec A W (2 * j + 1) (by omega))) (hsStep (2 * j) (scaleOf (hVec A W (2 * j) (by omega))) acc))
/-- All the scales of the result. -/
def hScales : FVec F S256x14 .f32 := hScalesFrom A W 7 0 (by decide) (broadcast S256x14 (Scalar.ofBits .f32 0x00000000#32))

end

variable (X : S256x4736.Idx → Elt F .bf16) (A : S256x4736.Idx → Elt F .bf16) (W : S4736x3584.Idx → Elt F .bf16)

theorem inGroup_emb {g : Nat} (hg : g < 37) (x : S256x128.Idx) :
    inGroup ((Rect.unit (s := S256x4736) ![0, 128 * g] S256x128.size (inb_xgroup hg)).emb x 0)
      ((Rect.unit (s := S256x4736) ![0, 128 * g] S256x128.size (inb_xgroup hg)).emb x 1).val = x := by
  have h1 : (x 1).val < 128 := (x 1).isLt
  funext a; apply Fin.ext
  fin_cases a <;> simp [inGroup, ix, Rect.emb_apply] <;> omega

theorem inGroup_emb_h {n : Nat} (hn : n < 14) (x : S256x128.Idx) :
    inGroup ((Rect.unit (s := S256x1792) ![0, 128 * n] S256x128.size (inb_hgroup hn)).emb x 0)
      ((Rect.unit (s := S256x1792) ![0, 128 * n] S256x128.size (inb_hgroup hn)).emb x 1).val = x := by
  have h1 : (x 1).val < 128 := (x 1).isLt
  funext a; apply Fin.ext
  fin_cases a <;> simp [inGroup, ix, Rect.emb_apply] <;> omega

theorem group_emb {g : Nat} (hg : g < 37) (x : S256x128.Idx) :
    ((Rect.unit (s := S256x4736) ![0, 128 * g] S256x128.size (inb_xgroup hg)).emb x 1).val / 128 = g := by
  have h1 : (x 1).val < 128 := (x 1).isLt
  simp [Rect.emb_apply]; omega

theorem group_emb_h {n : Nat} (hn : n < 14) (x : S256x128.Idx) :
    ((Rect.unit (s := S256x1792) ![0, 128 * n] S256x128.size (inb_hgroup hn)).emb x 1).val / 128 = n := by
  have h1 : (x 1).val < 128 := (x 1).isLt
  simp [Rect.emb_apply]; omega

theorem xVec_congr {g g' : Nat} (hg : g < 37) (hg' : g' < 37) (h : g = g') : xVec X g hg = xVec X g' hg' := by subst h; rfl
theorem hVec_congr {n n' : Nat} (hn : n < 14) (hn' : n' < 14) (h : n = n') : hVec A W n hn = hVec A W n' hn' := by subst h; rfl

/-- The codes stored by group `g` are the block's codes there, -/
theorem xCodes_emb {g : Nat} (hg : g < 37) (x : S256x128.Idx) :
    codesOf (xVec X g hg) x = xCodes X ((Rect.unit (s := S256x4736) ![0, 128 * g] S256x128.size (inb_xgroup hg)).emb x) := by
  unfold xCodes
  rw [inGroup_emb hg x, xVec_congr X _ hg (group_emb hg x)]
theorem xWide_emb {g : Nat} (hg : g < 37) (x : S256x128.Idx) :
    widenOf (xVec X g hg) x = xWide X ((Rect.unit (s := S256x4736) ![0, 128 * g] S256x128.size (inb_xgroup hg)).emb x) := by
  unfold xWide
  rw [inGroup_emb hg x, xVec_congr X _ hg (group_emb hg x)]
theorem hCodes_emb {n : Nat} (hn : n < 14) (x : S256x128.Idx) :
    codesOf (hVec A W n hn) x = hCodes A W ((Rect.unit (s := S256x1792) ![0, 128 * n] S256x128.size (inb_hgroup hn)).emb x) := by
  unfold hCodes
  rw [inGroup_emb_h hn x, hVec_congr A W _ hn (group_emb_h hn x)]

theorem hVec_even (j : Nat) (hj : j < 7) : hVec A W (2 * j) (by omega) = halfOf 0 (by decide) (tileVec A W j hj) := by
  have h1 : 2 * j % 2 = 0 := by omega
  have h2 : 2 * j / 2 = j := by omega
  unfold hVec
  congr! 1
  congr! 1
theorem hVec_odd (j : Nat) (hj : j < 7) : hVec A W (2 * j + 1) (by omega) = halfOf 1 (by decide) (tileVec A W j hj) := by
  have h1 : (2 * j + 1) % 2 = 1 := by omega
  have h2 : (2 * j + 1) / 2 = j := by omega
  unfold hVec
  congr! 1
  congr! 1

/-! ## The triples -/

section
variable (c : Dev nD) (arg2 : Memref sig .tc .vmem S256x4736 .bf16)
  (arg4 : Memref sig .tc .vmem S256x1792 .fp8e4m3) (harg4 : arg4.IsWhole) (arg5 : Memref sig .tc .vmem S256x14 .f32)
  (arg6 : Memref sig .tc .vmem S256x4736 .fp8e4m3) (harg6 : arg6.IsWhole) (arg7 : Memref sig .tc .vmem S256x37 .f32)
  (arg8 : Memref sig .tc .vmem S4736x3584 .bf16)
  (arg10 : Memref sig .tc .vmem S256x4736 .bf16) (harg10 : arg10.IsWhole)

/-- A memref's elements, known where `D` holds. -/
abbrev known (c : Dev nD) {s : Shape} {e : EltTy} (m : Memref sig .tc .vmem s e) (T : s.Idx → Elt F e) (D : s.Idx → Prop) : sProp 𝕄 :=
  part c m m.view.set fullShare T D

theorem access_sub {s : Shape} {e : EltTy} (m : Memref sig .tc .vmem s e) (r : Rect s) : (m.access r).set ⊆ m.view.set := by
  rw [View.set_slice]; exact View.setOn_subset_set _ _

/-- A column group below `b` groups, or in the group at `b`. -/
theorem below_succ {s : Shape} (a : Fin s.rank) {y : s.Idx} {b : Nat} (r : Rect s)
    (hr : 128 * b ≤ (y a).val → (y a).val < 128 * (b + 1) → y ∈ r.set) :
    (y a).val < 128 * (b + 1) → y ∉ r.set → (y a).val < 128 * b := fun h hn => by
  by_contra h'; exact hn (hr (by omega) h)

theorem mem_xgroup {g : Nat} (hg : g < 37) (y : S256x4736.Idx) (h1 : 128 * g ≤ (y 1).val) (h2 : (y 1).val < 128 * (g + 1)) :
    y ∈ (Rect.unit (s := S256x4736) ![0, 128 * g] S256x128.size (inb_xgroup hg)).set := by
  rw [Rect.mem_set_unit]
  have h0 : (y 0).val < 256 := (y 0).isLt
  intro a; fin_cases a <;> simp <;> omega
theorem mem_hgroup {n : Nat} (hn : n < 14) (y : S256x1792.Idx) (h1 : 128 * n ≤ (y 1).val) (h2 : (y 1).val < 128 * (n + 1)) :
    y ∈ (Rect.unit (s := S256x1792) ![0, 128 * n] S256x128.size (inb_hgroup hn)).set := by
  rw [Rect.mem_set_unit]
  have h0 : (y 0).val < 256 := (y 0).isLt
  intro a; fin_cases a <;> simp <;> omega

/-- Group `g` of `x`. -/
theorem xGroup_runs (K : FVec F S256x37 .f32 → sProp 𝕄) (g : Nat) (hg : g < 37) (acc : FVec F S256x37 .f32) :
    iprop(known c arg2 X (fun _ => True) ∗ known c arg6 (xCodes X) (fun y => (y 1).val < 128 * g) ∗ known c arg10 (xWide X) (fun y => (y 1).val < 128 * g)
        ∗ ((known c arg2 X (fun _ => True) ∗ known c arg6 (xCodes X) (fun y => (y 1).val < 128 * (g + 1)) ∗ known c arg10 (xWide X) (fun y => (y 1).val < 128 * (g + 1)))
            -∗ K (xsStep g (scaleOf (xVec X g hg)) acc)))
      ⊢ runs c (xGroup arg2 arg6 harg6 arg10 harg10 g hg acc) K := by
  unfold xGroup
  iintro ⟨H2, H6, H10, Hk⟩
  iapply (load c (access_sub arg2 _) (fun _ => trivial) (v := xRaw X g hg) rfl) $$ H2
  iintro H2
  iapply (load_any c (access_sub arg6 _)) $$ H6
  iintro %v6 H6
  iapply (store c (access_sub arg6 _) (xCodes_emb X hg) (D' := fun y => (y 1).val < 128 * (g + 1))
    (fun y => below_succ 1 _ (mem_xgroup hg y))) $$ H6
  iintro H6
  iapply (load_any c (access_sub arg10 _)) $$ H10
  iintro %v10 H10
  iapply (store c (access_sub arg10 _) (xWide_emb X hg) (D' := fun y => (y 1).val < 128 * (g + 1))
    (fun y => below_succ 1 _ (mem_xgroup hg y))) $$ H10
  iintro H10
  iapply (runs_pure c)
  iapply Hk
  isplitl [H2]; · iexact H2
  isplitl [H6]; · iexact H6
  iexact H10

/-- The groups of `x` from `g` on: the codes and the widened values come to be known, the scales gathered. -/
theorem xFrom_runs (K : FVec F S256x37 .f32 → sProp 𝕄) : ∀ (n g : Nat) (h : g + n = 37) (acc : FVec F S256x37 .f32),
    iprop(known c arg2 X (fun _ => True) ∗ known c arg6 (xCodes X) (fun y => (y 1).val < 128 * g) ∗ known c arg10 (xWide X) (fun y => (y 1).val < 128 * g)
        ∗ ((known c arg2 X (fun _ => True) ∗ known c arg6 (xCodes X) (fun y => (y 1).val < 128 * 37) ∗ known c arg10 (xWide X) (fun y => (y 1).val < 128 * 37))
            -∗ K (xScalesFrom X n g h acc)))
      ⊢ runs c (xFrom arg2 arg6 harg6 arg10 harg10 n g h acc) K
  | 0, g, h, acc => by
    obtain rfl : g = 37 := by omega
    unfold xFrom xScalesFrom
    iintro ⟨H2, H6, H10, Hk⟩
    iapply (runs_pure c)
    iapply Hk
    isplitl [H2]; · iexact H2
    isplitl [H6]; · iexact H6
    iexact H10
  | n + 1, g, h, acc => by
    unfold xFrom xScalesFrom
    iintro ⟨H2, H6, H10, Hk⟩
    iapply (runs_bind c)
    iapply (xGroup_runs X c arg2 arg6 harg6 arg10 harg10 _ g _ acc)
    isplitl [H2]; · iexact H2
    isplitl [H6]; · iexact H6
    isplitl [H10]; · iexact H10
    iintro ⟨H2, H6, H10⟩
    iapply (xFrom_runs K n (g + 1) _ _)
    isplitl [H2]; · iexact H2
    isplitl [H6]; · iexact H6
    isplitl [H10]; · iexact H10
    iexact Hk

/-- Group `n` of the result. -/
theorem hGroup_runs (K : FVec F S256x14 .f32 → sProp 𝕄) (n : Nat) (hn : n < 14) (v : FVec F S256x128 .f32) (hv : hVec A W n hn = v) (acc : FVec F S256x14 .f32) :
    iprop(known c arg4 (hCodes A W) (fun y => (y 1).val < 128 * n)
        ∗ (known c arg4 (hCodes A W) (fun y => (y 1).val < 128 * (n + 1)) -∗ K (hsStep n (scaleOf (hVec A W n hn)) acc)))
      ⊢ runs c (hGroup arg4 harg4 n hn v acc) K := by
  subst hv
  unfold hGroup
  iintro ⟨H4, Hk⟩
  iapply (load_any c (access_sub arg4 _)) $$ H4
  iintro %v4 H4
  iapply (store c (access_sub arg4 _) (hCodes_emb A W hn) (D' := fun y => (y 1).val < 128 * (n + 1))
    (fun y => below_succ 1 _ (mem_hgroup hn y))) $$ H4
  iintro H4
  iapply (runs_pure c)
  iapply Hk
  iexact H4

/-- Tile `j` of the result. -/
theorem tile_runs (K : FVec F S256x14 .f32 → sProp 𝕄) (D10 : S256x4736.Idx → Prop) (h10 : ∀ y, D10 y) (j : Nat) (hj : j < 7) (acc : FVec F S256x14 .f32) :
    iprop(known c arg4 (hCodes A W) (fun y => (y 1).val < 128 * (2 * j)) ∗ known c arg8 W (fun _ => True) ∗ known c arg10 A D10
        ∗ ((known c arg4 (hCodes A W) (fun y => (y 1).val < 128 * (2 * j + 1 + 1)) ∗ known c arg8 W (fun _ => True) ∗ known c arg10 A D10)
            -∗ K (hsStep (2 * j + 1) (scaleOf (hVec A W (2 * j + 1) (by omega))) (hsStep (2 * j) (scaleOf (hVec A W (2 * j) (by omega))) acc))))
      ⊢ runs c (tile arg4 harg4 arg8 arg10 j hj acc) K := by
  unfold tile
  iintro ⟨H4, H8, H10, Hk⟩
  iapply (load c (access_sub arg10 _) (fun _ => h10 _) rfl) $$ H10
  iintro H10
  iapply (load c (access_sub arg8 _) (fun _ => trivial) rfl) $$ H8
  iintro H8
  iapply (load c (access_sub arg10 _) (fun _ => h10 _) rfl) $$ H10
  iintro H10
  iapply (load c (access_sub arg8 _) (fun _ => trivial) rfl) $$ H8
  iintro H8
  iapply (runs_bind c)
  iapply (hGroup_runs A W c arg4 harg4 _ (2 * j) (by omega) _ (hVec_even A W j hj) acc)
  isplitl [H4]; · iexact H4
  iintro H4
  iapply (hGroup_runs A W c arg4 harg4 _ (2 * j + 1) (by omega) _ (hVec_odd A W j hj) _)
  isplitl [H4]; · iexact H4
  iintro H4
  iapply Hk
  isplitl [H4]; · iexact H4
  isplitl [H8]; · iexact H8
  iexact H10

/-- The tiles of the result from `j` on. -/
theorem tilesFrom_runs (K : FVec F S256x14 .f32 → sProp 𝕄) (D10 : S256x4736.Idx → Prop) (h10 : ∀ y, D10 y) :
    ∀ (n j : Nat) (h : j + n = 7) (acc : FVec F S256x14 .f32),
    iprop(known c arg4 (hCodes A W) (fun y => (y 1).val < 128 * (2 * j)) ∗ known c arg8 W (fun _ => True) ∗ known c arg10 A D10
        ∗ ((known c arg4 (hCodes A W) (fun y => (y 1).val < 128 * (2 * 7)) ∗ known c arg8 W (fun _ => True) ∗ known c arg10 A D10)
            -∗ K (hScalesFrom A W n j h acc)))
      ⊢ runs c (tilesFrom arg4 harg4 arg8 arg10 n j h acc) K
  | 0, j, h, acc => by
    obtain rfl : j = 7 := by omega
    unfold tilesFrom hScalesFrom
    iintro ⟨H4, H8, H10, Hk⟩
    iapply (runs_pure c)
    iapply Hk
    isplitl [H4]; · iexact H4
    isplitl [H8]; · iexact H8
    iexact H10
  | n + 1, j, h, acc => by
    unfold tilesFrom hScalesFrom
    iintro ⟨H4, H8, H10, Hk⟩
    iapply (runs_bind c)
    iapply (tile_runs A W c arg4 harg4 arg8 arg10 _ D10 h10 j _ acc)
    isplitl [H4]; · iexact H4
    isplitl [H8]; · iexact H8
    isplitl [H10]; · iexact H10
    iintro ⟨H4, H8, H10⟩
    iapply (tilesFrom_runs K D10 h10 n (j + 1) _ _)
    isplitl [H4]; · iexact H4
    isplitl [H8]; · iexact H8
    isplitl [H10]; · iexact H10
    iexact Hk

theorem emb_whole_xs (x : S256x37.Idx) : (Rect.unit (s := S256x37) ![0, 0] S256x37.size inb_S256x37_S256x37_0_0).emb x = x := by
  funext a; apply Fin.ext; fin_cases a <;> simp [Rect.emb_apply]
theorem emb_whole_hs (x : S256x14.Idx) : (Rect.unit (s := S256x14) ![0, 0] S256x14.size inb_S256x14_S256x14_0_0).emb x = x := by
  funext a; apply Fin.ext; fin_cases a <;> simp [Rect.emb_apply]

/-- The body after the fill: from a block of `x` and the widened weights, all four results of the block. -/
theorem lines_runs (K : PUnit → sProp 𝕄) :
    iprop(known c arg2 X (fun _ => True) ∗ known c arg8 W (fun _ => True)
        ∗ known c arg4 (hCodes (xWide X) W) (fun _ => False) ∗ known c arg5 (hScales (xWide X) W) (fun _ => False)
        ∗ known c arg6 (xCodes X) (fun _ => False) ∗ known c arg7 (xScales X) (fun _ => False) ∗ known c arg10 (xWide X) (fun _ => False)
        ∗ ((known c arg2 X (fun _ => True) ∗ known c arg8 W (fun _ => True)
            ∗ known c arg4 (hCodes (xWide X) W) (fun _ => True) ∗ known c arg5 (hScales (xWide X) W) (fun _ => True)
            ∗ known c arg6 (xCodes X) (fun _ => True) ∗ known c arg7 (xScales X) (fun _ => True) ∗ known c arg10 (xWide X) (fun _ => False)) -∗ K ⟨⟩))
      ⊢ runs c (lines arg2 arg4 harg4 arg5 arg6 harg6 arg7 arg8 arg10 harg10) K := by
  have h37 : ∀ y : S256x4736.Idx, (y 1).val < 128 * 37 := fun y => (y 1).isLt
  have h14 : ∀ y : S256x1792.Idx, (y 1).val < 128 * (2 * 7) := fun y => (y 1).isLt
  unfold lines
  iintro ⟨H2, H8, H4, H5, H6, H7, H10, Hk⟩
  ihave H6 := (part_mono c (D' := fun y => (y 1).val < 128 * 0) (fun y h => absurd h (by simp))) $$ H6
  ihave H10 := (part_mono c (D' := fun y => (y 1).val < 128 * 0) (fun y h => absurd h (by simp))) $$ H10
  ihave H4 := (part_mono c (D' := fun y => (y 1).val < 128 * (2 * 0)) (fun y h => absurd h (by simp))) $$ H4
  iapply (runs_bind c)
  iapply (xFrom_runs X c arg2 arg6 harg6 arg10 harg10 _ 37 0 _ _)
  isplitl [H2]; · iexact H2
  isplitl [H6]; · iexact H6
  isplitl [H10]; · iexact H10
  iintro ⟨H2, H6, H10⟩
  iapply (load_any c (access_sub arg7 _)) $$ H7
  iintro %v7 H7
  iapply (store c (access_sub arg7 _) (D' := fun _ => True) (fun x => congrArg (xScales X) (emb_whole_xs x).symm)
    (fun y _ h => h (by rw [← Rect.map_emb_univ]; exact Finset.mem_map.2 ⟨y, Finset.mem_univ _, emb_whole_xs y⟩))) $$ H7
  iintro H7
  iapply (runs_bind c)
  iapply (tilesFrom_runs (xWide X) W c arg4 harg4 arg8 arg10 _ _ h37 7 0 _ _)
  isplitl [H4]; · iexact H4
  isplitl [H8]; · iexact H8
  isplitl [H10]; · iexact H10
  iintro ⟨H4, H8, H10⟩
  iapply (load_any c (access_sub arg5 _)) $$ H5
  iintro %v5 H5
  iapply (store c (access_sub arg5 _) (D' := fun _ => True) (k := pure) (fun x => congrArg (hScales (xWide X) W) (emb_whole_hs x).symm)
    (fun y _ h => h (by rw [← Rect.map_emb_univ]; exact Finset.mem_map.2 ⟨y, Finset.mem_univ _, emb_whole_hs y⟩))) $$ H5
  iintro H5
  iapply (runs_pure c)
  iapply Hk
  isplitl [H2]; · iexact H2
  isplitl [H8]; · iexact H8
  isplitl [H4]; · iapply (part_mono c (fun y _ => ⟨h14 y, rfl⟩)); iexact H4
  isplitl [H5]; · iexact H5
  isplitl [H6]; · iapply (part_mono c (fun y _ => ⟨h37 y, rfl⟩)); iexact H6
  isplitl [H7]; · iexact H7
  iapply (part_mono c (fun y h => h.elim)); iexact H10

end

end Cert.KernelIdeal.Hand

end
-- ==== Proof.Fill.lean ====
/- The fill of the widened weights: chunk by chunk through two slots, the next chunk's copy under way while one is widened. -/
module

public import proofs.«01_k».proof.Proof.Lines
public import Idealize.ShloMosaic.Lib.ValueLayout

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The widened weights -/

section
variable (sw : S37x28.Idx → Elt F .f32) (G : S4736x3584.Idx → Elt F .fp8e4m3)

theorem lt_cells {k n : Nat} (hk : k < 37) (hn : n < 28) : ∀ a, (![k, n] : Fin 2 → Nat) a < S37x28.size a := by
  intro a; fin_cases a; exacts [hk, hn]

/-- The block of 128 × 128 weights at row block `k` and column block `n`. -/
def block (k n : Nat) (hk : k < 37) (hn : n < 28) : Vec F S1x128x128 .fp8e4m3 := fun i =>
  G (ix (s := S4736x3584) ![128 * k + (i 1).val, 128 * n + (i 2).val] (by
    have h1 : (i 1).val < 128 := (i 1).isLt
    have h2 : (i 2).val < 128 := (i 2).isLt
    intro a; fin_cases a <;> simp <;> omega))

/-- The place of row `r` and column `j` in its block of 128 × 128. -/
def inBlock (r j : Nat) : S128x128.Idx := ix ![r % 128, j % 128] (by intro a; fin_cases a <;> exact Nat.mod_lt _ (by decide))

/-- The weights times their blocks' scales. -/
def wide (y : S4736x3584.Idx) : Elt F .bf16 :=
  have h0 : (y 0).val / 128 < 37 := by have : (y 0).val < 4736 := (y 0).isLt; omega
  have h1 : (y 1).val / 128 < 28 := by have : (y 1).val < 3584 := (y 1).isLt; omega
  weightOf (sw (ix ![(y 0).val / 128, (y 1).val / 128] (lt_cells h0 h1))) (block G ((y 0).val / 128) ((y 1).val / 128) h0 h1) (inBlock (y 0).val (y 1).val)

theorem wide_at {k n : Nat} (hk : k < 37) (hn : n < 28) (x : S128x128.Idx) (y : S4736x3584.Idx)
    (h0 : (y 0).val = 128 * k + (x 0).val) (h1 : (y 1).val = 128 * n + (x 1).val) :
    wide sw G y = weightOf (sw (ix ![k, n] (lt_cells hk hn))) (block G k n hk hn) x := by
  have hx0 : (x 0).val < 128 := (x 0).isLt
  have hx1 : (x 1).val < 128 := (x 1).isLt
  have e0 : (y 0).val / 128 = k := by omega
  have e1 : (y 1).val / 128 = n := by omega
  have ex : inBlock (y 0).val (y 1).val = x := by
    funext a; apply Fin.ext
    fin_cases a <;> simp [inBlock, ix] <;> omega
  unfold wide
  rw [ex]
  subst e0; subst e1
  rfl

/-- What slot `c % 2` holds once chunk `c` is there: the chunk's 256 columns of weights. -/
def chunk (c : Nat) (hc : c < 14) (y : S2x4736x256.Idx) : Elt F .fp8e4m3 :=
  G (ix (s := S4736x3584) ![(y 1).val, 256 * c + (y 2).val] (by
    have h1 : (y 1).val < 4736 := (y 1).isLt
    have h2 : (y 2).val < 256 := (y 2).isLt
    intro a; fin_cases a <;> simp <;> omega))

end

variable (d : Dev nD) (arg1 : Memref sig .tc .smem S37x28 .f32)
  (arg3 : Memref sig .tc .hbm S4736x3584 .fp8e4m3) (harg3 : arg3.IsWhole)
  (arg8 : Memref sig .tc .vmem S4736x3584 .bf16) (harg8 : arg8.IsWhole)
  (arg9 : Memref sig .tc .vmem S2x4736x256 .fp8e4m3) (harg9 : arg9.IsWhole) (arg11 : DmaSems sig S2)
  (q : Nat → PosShare TreeShare) (fh : Buf (Elt F) (arg3.view.loc (d : Thread nD τ)))
  (sw : S37x28.Idx → Elt F .f32) (qs : PosShare TreeShare)

theorem inb_slotP {p : Nat} (hp : p < 2) : ∀ a, (![p, 0, 0] : Fin 3 → Nat) a + S1x4736x256.size a ≤ S2x4736x256.size a := by
  intro a; fin_cases a <;> simp; omega
theorem inb_cellP {p : Nat} (hp : p < 2) : ∀ a, (![p] : Fin 1 → Nat) a + S1.size a ≤ S2.size a := by
  intro a; fin_cases a; simp; omega
theorem two (c : Nat) : c % 2 < 2 := Nat.mod_lt _ (by decide)

/-- The elements of slot `p`, -/
abbrev slotSet (p : Nat) (hp : p < 2) : Finset (Idx (arg9.view.loc (d : Thread nD τ))) :=
  (arg9.access (Rect.unit (s := S2x4736x256) ![p, 0, 0] S1x4736x256.size (inb_slotP hp))).set
/-- and the cell that counts its copies. -/
abbrev cellP (p : Nat) (hp : p < 2) : DmaSem sig :=
  ((arg11.slice (Rect.unit (s := S2) ![p] S1.size (inb_cellP hp))).squeeze S_ squeezes_S1_S_).sem

/-- Slot `p` ready for a copy: the slot, its cell at zero, and a share of the weights. -/
def ready (p : Nat) (hp : p < 2) : sProp 𝕄 :=
  iprop((∃ f, arg9.view.loc (d : Thread nD τ) ↦[slotSet d arg9 p hp]{fullShare} f) ∗ semVal ((d : Thread nD τ), .dma (cellP arg11 p hp)) 0
    ∗ (arg3.view.loc (d : Thread nD τ) ↦[arg3.view.set]{q p} fh))

/-- What the copy of chunk `c` delivers: the slot with the chunk written over, and the weights' columns back. -/
def delivered (c : Nat) (hc : c < 14) (f : Buf (Elt F) (arg9.view.loc (d : Thread nD τ))) : sProp 𝕄 :=
  iprop(((stageOf arg9 c hc).view.loc (d : Thread nD τ) ↦[(stageOf arg9 c hc).view.set]{fullShare}
      (stageOf arg9 c hc).view.write (Elt F) f ((colsOf arg3 c hc).view.read (Elt F) fh) Finset.univ)
    ∗ ((colsOf arg3 c hc).view.loc (d : Thread nD τ) ↦[(colsOf arg3 c hc).view.set]{q (c % 2)} fh))

/-- Chunk `c`'s copy under way: what it will deliver, and the rest of the share of the weights. -/
def inFlight (c : Nat) (hc : c < 14) : sProp 𝕄 :=
  iprop(∃ f, Transfers.Flight countersEmb (d : Thread nD τ) (.dma (cellOf arg11 c hc).sem) () (stageOf arg9 c hc).view.dmaCredit
      (delivered d arg3 arg9 q fh c hc f)
    ∗ (arg3.view.loc (d : Thread nD τ) ↦[arg3.view.set \ (colsOf arg3 c hc).view.set]{q (c % 2)} fh))

theorem stage_set (c : Nat) (hc : c < 14) : (stageOf arg9 c hc).view.set = slotSet d arg9 (c % 2) (two c) := View.set_reshape _ _
theorem cols_sub (c : Nat) (hc : c < 14) : (colsOf arg3 c hc).view.set ⊆ arg3.view.set := View.set_slice_subset _ _

theorem startCopy_runs (c : Nat) (hc : c < 14) (K : PUnit → sProp 𝕄) :
    iprop(ready d arg3 arg9 arg11 q fh (c % 2) (two c) ∗ (inFlight d arg3 arg9 arg11 q fh c hc -∗ K ⟨⟩))
      ⊢ runs d (startCopy arg3 harg3 arg9 harg9 arg11 c hc) K := by
  unfold ready inFlight startCopy
  iintro ⟨⟨⟨%f, Hslot⟩, Hcell, Hw⟩, Hk⟩
  ihave Hw := (pointsTo_split_subset (cols_sub arg3 c hc)).1 $$ Hw
  icases Hw with ⟨Hc, Hr⟩
  iapply (Transfers.wp_dmaLocal countersEmb Variants.none (d : Thread nD τ) none (src := colsOf arg3 c hc) (dst := stageOf arg9 c hc)
    (via := .same) (sm := .dma (cellOf arg11 c hc).sem) (fs := fh) (fd := f) (q := q (c % 2))
    (Sd := (stageOf arg9 c hc).view.set) () (stageOf arg9 c hc).view.dmaCredit rfl (View.dmaCredit_pos _ (by decide)) (Finset.Subset.refl _)) $$ [Hc Hslot Hcell]
  · isplitl [Hc]; · iexact Hc
    isplitl [Hslot]
    · rw [stage_set d arg9 c hc]; iexact Hslot
    iexact Hcell
  iintro HF
  iapply (runs_pure d)
  iapply Hk
  iexists f
  isplitl [HF]
  · unfold delivered; iexact HF
  iexact Hr

/-- Slot `c % 2` with chunk `c` in it. -/
abbrev landed (c : Nat) (hc : c < 14) : sProp 𝕄 :=
  part d arg9 (slotSet d arg9 (c % 2) (two c)) fullShare (chunk (arg3.view.read (Elt F) fh) c hc) (fun y => (y 0).val = c % 2)

theorem landed_read (c : Nat) (hc : c < 14) (f : Buf (Elt F) (arg9.view.loc (d : Thread nD τ))) (y : S2x4736x256.Idx) (hy : (y 0).val = c % 2) :
    arg9.view.read (Elt F) ((stageOf arg9 c hc).view.write (Elt F) f ((colsOf arg3 c hc).view.read (Elt F) fh) Finset.univ) y
      = chunk (arg3.view.read (Elt F) fh) c hc y := by
  have h1 : (y 1).val < 4736 := (y 1).isLt
  have h2 : (y 2).val < 256 := (y 2).isLt
  let x : S4736x256.Idx := ix ![(y 1).val, (y 2).val] (by intro a; fin_cases a; exacts [h1, h2])
  have hx : y = (Rect.unit (s := S2x4736x256) ![c % 2, 0, 0] S1x4736x256.size (inb_stage hc)).emb
      (Shape.reshapeEquiv squeezes_S1x4736x256_S4736x256.numel_eq x) := by
    rw [show Shape.reshapeEquiv squeezes_S1x4736x256_S4736x256.numel_eq x = Fin.cons ⟨0, Nat.one_pos⟩ x from Shape.reshapeEquiv_cons_one _ x]
    funext a; apply Fin.ext
    fin_cases a
    · show (y 0).val = c % 2 + 1 * 0; omega
    · show (y 1).val = 0 + 1 * (y 1).val; omega
    · show (y 2).val = 0 + 1 * (y 2).val; omega
  have hr := congrFun (View.read_write_univ (v := (stageOf arg9 c hc).view) f ((colsOf arg3 c hc).view.read (Elt F) fh)) x
  rw [hx]
  refine hr.trans ?_
  rw [← hx]
  refine congrArg (arg3.view.read (Elt F) fh) (funext fun a => Fin.ext ?_)
  fin_cases a <;> simp [x, Rect.emb_apply, ix]

theorem waitCopy_runs (c : Nat) (hc : c < 14) (K : PUnit → sProp 𝕄) (W : Waits sig Unit) :
    iprop(inFlight d arg3 arg9 arg11 q fh c hc ∗ owes (d : Thread nD τ) 0 W
        ∗ ((landed d arg3 arg9 fh c hc ∗ semVal ((d : Thread nD τ), .dma (cellP arg11 (c % 2) (two c))) 0
            ∗ (arg3.view.loc (d : Thread nD τ) ↦[arg3.view.set]{q (c % 2)} fh) ∗ ∃ W', owes (d : Thread nD τ) 0 W') -∗ K ⟨⟩))
      ⊢ runs d (waitCopy arg3 harg3 arg9 harg9 arg11 c hc) K := by
  unfold inFlight waitCopy
  iintro ⟨⟨%f, HF, Hr⟩, HO, Hk⟩
  iapply (Transfers.wp_waitLocal countersEmb Variants.none (d : Thread nD τ) none (sem := (cellOf arg11 c hc).sem)
    (srcw := colsOf arg3 c hc) (dstw := stageOf arg9 c hc) () rfl) $$ [HF HO]
  · isplitl [HF]; · iexact HF
    iexact HO
  iintro ⟨HD, Hcell, HO⟩
  unfold delivered
  icases HD with ⟨Hslot, Hc⟩
  iapply (runs_pure d)
  iapply Hk
  isplitl [Hslot]
  · unfold landed part
    iexists (stageOf arg9 c hc).view.write (Elt F) f ((colsOf arg3 c hc).view.read (Elt F) fh) Finset.univ
    isplitr
    · ipureintro; exact landed_read d arg3 arg9 fh c hc f
    rw [stage_set d arg9 c hc]; iexact Hslot
  isplitl [Hcell]; · iexact Hcell
  isplitl [Hc Hr]
  · iapply (pointsTo_split_subset (cols_sub arg3 c hc)).2
    isplitl [Hc]; · iexact Hc
    iexact Hr
  iexists _; iexact HO

end Cert.KernelIdeal.Hand

end
-- ==== Proof.Widen.lean ====
/- Widening a chunk's blocks, and the whole fill. -/
module

public import proofs.«01_k».proof.Proof.Fill

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (d : Dev nD) (arg1 : Memref sig .tc .smem S37x28 .f32)
  (arg3 : Memref sig .tc .hbm S4736x3584 .fp8e4m3) (harg3 : arg3.IsWhole)
  (arg8 : Memref sig .tc .vmem S4736x3584 .bf16) (harg8 : arg8.IsWhole)
  (arg9 : Memref sig .tc .vmem S2x4736x256 .fp8e4m3) (harg9 : arg9.IsWhole) (arg11 : DmaSems sig S2)
  (q : Nat → PosShare TreeShare) (fh : Buf (Elt F) (arg3.view.loc (d : Thread nD τ)))
  (sw : S37x28.Idx → Elt F .f32) (qs : PosShare TreeShare)

/-- The scales, known. -/
abbrev scales : sProp 𝕄 := part d arg1 arg1.view.set qs sw (fun _ => True)

/-- The weights to be known once `h` of the two halves of row block `k` of chunk `c` are widened. -/
def Done (c k h : Nat) (y : S4736x3584.Idx) : Prop :=
  (y 1).val < 256 * c ∨ ((y 1).val < 256 * (c + 1) ∧ (y 0).val < 128 * k)
    ∨ ((y 1).val < 256 * c + 128 * h ∧ (y 0).val < 128 * (k + 1))

theorem kept {c h : Nat} {hc : c < 14} {hh : h < 2} {k : Fin rowTrips} {inb} (y : S4736x3584.Idx) (hy : Done c k.val (h + 1) y)
    (hn : y ∉ (Rect.unit (s := S4736x3584) ![kRow k.val, 256 * c + 128 * h] S128x128.size inb).set) : Done c k.val h y := by
  rw [Rect.mem_set_unit] at hn
  have hk := kRow_eq k
  unfold Done at hy ⊢
  by_contra hd
  refine hn fun a => ?_
  fin_cases a <;> simp <;> omega

/-- What block row `k`, column half `h` of a chunk reads of the slot, -/
theorem slot_block {c h : Nat} (hc : c < 14) (hh : h < 2) (k : Fin rowTrips) (G : S4736x3584.Idx → Elt F .fp8e4m3) {inb} :
    (fun x => chunk G c hc ((Rect.unit (s := S2x4736x256) ![c % 2, kRow k.val, 128 * h] S1x128x128.size inb).emb x))
      = block G k.val (2 * c + h) (lt37 k) (by omega) := by
  have hk := kRow_eq k
  funext x
  refine congrArg G (funext fun a => Fin.ext ?_)
  fin_cases a
  · show kRow k.val + 1 * (x 1).val = 128 * k.val + (x 1).val; omega
  · show 256 * c + (128 * h + 1 * (x 2).val) = 128 * (2 * c + h) + (x 2).val; omega

theorem slot_sub {c h : Nat} (hc : c < 14) (hh : h < 2) (k : Fin rowTrips) {inb} :
    (arg9.access (Rect.unit (s := S2x4736x256) ![c % 2, kRow k.val, 128 * h] S1x128x128.size inb)).set ⊆ slotSet d arg9 (c % 2) (two c) := by
  have hk := kRow_eq k
  have h37 := lt37 k
  unfold slotSet
  rw [View.set_slice, View.set_slice]
  refine Finset.map_subset_map.2 fun y hy => ?_
  rw [Rect.mem_set_unit] at hy ⊢
  have e0 := hy 0; have e1 := hy 1; have e2 := hy 2
  simp at e0 e1 e2
  intro a; fin_cases a <;> simp <;> omega

/-- The scale a block reads. -/
theorem scale_at {c h : Nat} (hc : c < 14) (hh : h < 2) (k : Fin rowTrips) {inb} (x : S1x1.Idx) :
    (Rect.unit (s := S37x28) ![kIdx k.val, 2 * c + h] S1x1.size inb).emb x = ix ![k.val, 2 * c + h] (lt_cells (lt37 k) (by omega)) := by
  have hk := kIdx_eq k
  have h0 : (x 0).val < 1 := (x 0).isLt
  have h1 : (x 1).val < 1 := (x 1).isLt
  funext a; apply Fin.ext
  fin_cases a
  · show kIdx k.val + 1 * (x 0).val = k.val; omega
  · show 2 * c + h + 1 * (x 1).val = 2 * c + h; omega

/-- A load of one element of scalar memory. -/
theorem load_scalar {α : Type} {Q : α → sProp 𝕄} {r : Rect S37x28} {h1 : r.shape.numel = 1} {hp : EltTy.f32.packing = 1}
    {k : Elt F .f32 → Prog (TpuEff nD τ sig (Elt F) Λ₀ .tc) α} {y : S37x28.Idx} (hr : ∀ x, r.emb x = y) :
    scales d arg1 sw qs ⊢ iprop((scales d arg1 sw qs -∗ runs d (k (sw y)) Q) -∗ runs d (smemLoad arg1 r h1 hp >>= k) Q) := by
  have hS : (arg1.access r).set ⊆ arg1.view.set := View.set_slice_subset _ _
  have h := part_load (m := arg1) (q := qs) (T := sw) (D := fun _ => True) (Q := Q) d (hl := View.loadsAt_rect (View.loads_smem_one hp h1))
    (k := fun v => k (v (Shape.Idx.first (h1.symm ▸ Nat.one_pos)))) hS (fun _ => trivial)
  simp only [hr] at h
  exact h

/-- The weights a block stores are the widened weights there. -/
theorem wide_emb {c h : Nat} (hc : c < 14) (hh : h < 2) (k : Fin rowTrips) (G : S4736x3584.Idx → Elt F .fp8e4m3) {inb} (x : S128x128.Idx) :
    weightOf (sw (ix ![k.val, 2 * c + h] (lt_cells (lt37 k) (by omega)))) (block G k.val (2 * c + h) (lt37 k) (by omega)) x
      = wide sw G ((Rect.unit (s := S4736x3584) ![kRow k.val, 256 * c + 128 * h] S128x128.size inb).emb x) := by
  have hk := kRow_eq k
  refine (wide_at sw G (lt37 k) (by omega) x _ ?_ ?_).symm
  · show kRow k.val + 1 * (x 0).val = _; omega
  · show 256 * c + 128 * h + 1 * (x 1).val = _; omega

theorem widenBlock_runs (c : Nat) (hc : c < 14) (h : Nat) (hh : h < 2) (k : Fin rowTrips) (K : PUnit → sProp 𝕄) :
    iprop(scales d arg1 sw qs ∗ landed d arg3 arg9 fh c hc ∗ known d arg8 (wide sw (arg3.view.read (Elt F) fh)) (Done c k.val h)
        ∗ ((scales d arg1 sw qs ∗ landed d arg3 arg9 fh c hc ∗ known d arg8 (wide sw (arg3.view.read (Elt F) fh)) (Done c k.val (h + 1))) -∗ K ⟨⟩))
      ⊢ runs d (widenBlock arg1 arg8 harg8 arg9 c hc h hh k) K := by
  have hk := kRow_eq k
  unfold widenBlock
  iintro ⟨H1, H9, H8, Hk⟩
  iapply (load_scalar d arg1 sw qs (scale_at hc hh k)) $$ H1
  iintro H1
  iapply (load d (m := arg9) (T := chunk (arg3.view.read (Elt F) fh) c hc) (D := fun y => (y 0).val = c % 2)
    (v := block (arg3.view.read (Elt F) fh) k.val (2 * c + h) (lt37 k) (by omega)) (slot_sub d arg9 hc hh k) (fun x => by
    show c % 2 + 1 * (x 0).val = c % 2
    have : (x 0).val < 1 := (x 0).isLt
    omega) (slot_block hc hh k (arg3.view.read (Elt F) fh))) $$ H9
  iintro H9
  iapply (load_any d (access_sub arg8 _)) $$ H8
  iintro %v8 H8
  iapply (store_last d (m := arg8) (T := wide sw (arg3.view.read (Elt F) fh)) (D := Done c k.val h) (access_sub arg8 _) (D' := Done c k.val (h + 1)) (wide_emb sw hc hh k (arg3.view.read (Elt F) fh))
    (fun y hy hn => kept (hc := hc) (hh := hh) y hy hn)) $$ H8
  iintro H8
  iapply Hk
  isplitl [H1]; · iexact H1
  isplitl [H9]; · iexact H9
  iexact H8

theorem widenTrip_runs (c : Nat) (hc : c < 14) (k : Fin rowTrips) (u : Unit) (K : Unit → sProp 𝕄) :
    iprop(scales d arg1 sw qs ∗ landed d arg3 arg9 fh c hc ∗ known d arg8 (wide sw (arg3.view.read (Elt F) fh)) (Done c k.val 0)
        ∗ ((scales d arg1 sw qs ∗ landed d arg3 arg9 fh c hc ∗ known d arg8 (wide sw (arg3.view.read (Elt F) fh)) (Done c (k.val + 1) 0)) -∗ K ⟨⟩))
      ⊢ runs d (widenTrip arg1 arg8 harg8 arg9 c hc k u) K := by
  unfold widenTrip
  iintro ⟨H1, H9, H8, Hk⟩
  iapply (runs_bind d)
  iapply (widenBlock_runs d arg1 arg3 arg8 harg8 arg9 fh sw qs c hc 0 _ k)
  isplitl [H1]; · iexact H1
  isplitl [H9]; · iexact H9
  isplitl [H8]; · iexact H8
  iintro ⟨H1, H9, H8⟩
  iapply (runs_bind d)
  iapply (widenBlock_runs d arg1 arg3 arg8 harg8 arg9 fh sw qs c hc 1 _ k)
  isplitl [H1]; · iexact H1
  isplitl [H9]; · iexact H9
  isplitl [H8]; · iexact H8
  iintro ⟨H1, H9, H8⟩
  iapply (runs_pure d)
  iapply Hk
  isplitl [H1]; · iexact H1
  isplitl [H9]; · iexact H9
  iapply (part_mono d (D := Done c k.val (1 + 1)) (D' := Done c (k.val + 1) 0) (fun y hy => ⟨by unfold Done at hy ⊢; omega, rfl⟩)); iexact H8

theorem widenChunk_runs (c : Nat) (hc : c < 14) (K : Unit → sProp 𝕄) :
    iprop(scales d arg1 sw qs ∗ landed d arg3 arg9 fh c hc ∗ known d arg8 (wide sw (arg3.view.read (Elt F) fh)) (fun y => (y 1).val < 256 * c)
        ∗ ((scales d arg1 sw qs ∗ landed d arg3 arg9 fh c hc ∗ known d arg8 (wide sw (arg3.view.read (Elt F) fh)) (fun y => (y 1).val < 256 * (c + 1))) -∗ K ⟨⟩))
      ⊢ runs d (widenChunk arg1 arg8 harg8 arg9 c hc) K := by
  unfold widenChunk
  iintro ⟨H1, H9, H8, Hk⟩
  iapply (Scf.wp_for frame (wpE (defs₀ (F := F)) Variants.none (d : Thread nD τ) none) Set.univ k0_t1_loop.lb k0_t1_loop.ub k0_t1_loop.st k0_t1_abs.1 ⟨⟩
    (widenTrip arg1 arg8 harg8 arg9 c hc)
    (fun k _ => iprop(scales d arg1 sw qs ∗ landed d arg3 arg9 fh c hc ∗ known d arg8 (wide sw (arg3.view.read (Elt F) fh)) (Done c k 0)))
    (fun k u => by
      iintro ⟨H1, H9, H8⟩
      iapply (widenTrip_runs d arg1 arg3 arg8 harg8 arg9 fh sw qs c hc k u)
      isplitl [H1]; · iexact H1
      isplitl [H9]; · iexact H9
      isplitl [H8]; · iexact H8
      iintro H; iexact H))
  isplitl [H1 H9 H8]
  · isplitl [H1]; · iexact H1
    isplitl [H9]; · iexact H9
    iapply (part_mono d (D := fun y => (y 1).val < 256 * c) (D' := Done c 0 0) (fun y hy => ⟨by unfold Done at hy; omega, rfl⟩)); iexact H8
  iintro %u ⟨H1, H9, H8⟩
  iapply Hk
  isplitl [H1]; · iexact H1
  isplitl [H9]; · iexact H9
  iapply (part_mono d (D := Done c (Scf.trips k0_t1_loop.lb k0_t1_loop.ub k0_t1_loop.st) 0) (D' := fun y => (y 1).val < 256 * (c + 1)) (fun y hy => ⟨by
    have h0 : (y 0).val < 4736 := (y 0).isLt
    have ht : Scf.trips k0_t1_loop.lb k0_t1_loop.ub k0_t1_loop.st = 37 := rowTrips_eq
    unfold Done; omega, rfl⟩)); iexact H8

end Cert.KernelIdeal.Hand

end
-- ==== Proof.Point.lean ====
/- The whole fill, and the whole body at a point. -/
module

public import proofs.«01_k».proof.Proof.Widen

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (d : Dev nD) (arg1 : Memref sig .tc .smem S37x28 .f32)
  (arg3 : Memref sig .tc .hbm S4736x3584 .fp8e4m3) (harg3 : arg3.IsWhole)
  (arg8 : Memref sig .tc .vmem S4736x3584 .bf16) (harg8 : arg8.IsWhole)
  (arg9 : Memref sig .tc .vmem S2x4736x256 .fp8e4m3) (harg9 : arg9.IsWhole) (arg11 : DmaSems sig S2)
  (q : Nat → PosShare TreeShare) (fh : Buf (Elt F) (arg3.view.loc (d : Thread nD τ)))
  (sw : S37x28.Idx → Elt F .f32) (qs : PosShare TreeShare)

/-- The copies' state before chunk `c` is awaited: its copy under way and the other slot ready, or, past the last, both ready. -/
def copies (c : Nat) : sProp 𝕄 :=
  if hc : c < 14 then iprop(inFlight d arg3 arg9 arg11 q fh c hc ∗ ready d arg3 arg9 arg11 q fh ((c + 1) % 2) (two _))
  else iprop(ready d arg3 arg9 arg11 q fh (c % 2) (two _) ∗ ready d arg3 arg9 arg11 q fh ((c + 1) % 2) (two _))

theorem ready_congr {p p' : Nat} (hp : p < 2) (hp' : p' < 2) (h : p = p') :
    ready d arg3 arg9 arg11 q fh p hp ⊢ ready d arg3 arg9 arg11 q fh p' hp' := by subst h; exact .rfl

/-- A landed slot with its cell and its share of the weights is ready again. -/
theorem ready_landed (c : Nat) (hc : c < 14) :
    iprop(landed d arg3 arg9 fh c hc ∗ semVal ((d : Thread nD τ), .dma (cellP arg11 (c % 2) (two c))) 0
        ∗ (arg3.view.loc (d : Thread nD τ) ↦[arg3.view.set]{q (c % 2)} fh))
      ⊢ ready d arg3 arg9 arg11 q fh (c % 2) (two c) := by
  unfold landed part ready
  iintro ⟨⟨%f, %hf, H9⟩, Hc, H3⟩
  isplitl [H9]; · iexists f; iexact H9
  isplitl [Hc]; · iexact Hc
  iexact H3

/-- Starting the next chunk's copy, if there is one. -/
theorem startNext_runs (c : Nat) (hc : c < 14) (K : PUnit → sProp 𝕄) :
    iprop(ready d arg3 arg9 arg11 q fh ((c + 1) % 2) (two _)
        ∗ ((ready d arg3 arg9 arg11 q fh (c % 2) (two _) -∗ copies d arg3 arg9 arg11 q fh (c + 1)) -∗ K ⟨⟩))
      ⊢ runs d (startNext arg3 harg3 arg9 harg9 arg11 (c + 1)) K := by
  unfold startNext copies
  iintro ⟨Hr, Hk⟩
  by_cases h : c + 1 < 14
  · rw [dif_pos h, dif_pos h]
    iapply (startCopy_runs d arg3 harg3 arg9 harg9 arg11 q fh (c + 1) h)
    isplitl [Hr]; · iexact Hr
    iintro HF
    iapply Hk
    iintro Hr
    isplitl [HF]; · iexact HF
    iapply (ready_congr d arg3 arg9 arg11 q fh (two c) (two _) (by omega)); iexact Hr
  · rw [dif_neg h, dif_neg h]
    iapply (runs_pure d)
    iapply Hk
    iintro Hr'
    isplitl [Hr]; · iexact Hr
    iapply (ready_congr d arg3 arg9 arg11 q fh (two c) (two _) (by omega)); iexact Hr'

/-- The chunks from `c` on. -/
theorem fillFrom_runs (K : PUnit → sProp 𝕄) : ∀ (n c : Nat) (h : c + n = 14) (W : Waits sig Unit),
    iprop(scales d arg1 sw qs ∗ known d arg8 (wide sw (arg3.view.read (Elt F) fh)) (fun y => (y 1).val < 256 * c)
        ∗ copies d arg3 arg9 arg11 q fh c ∗ owes (d : Thread nD τ) 0 W
        ∗ ((scales d arg1 sw qs ∗ known d arg8 (wide sw (arg3.view.read (Elt F) fh)) (fun _ => True)
            ∗ ready d arg3 arg9 arg11 q fh 0 (by decide) ∗ ready d arg3 arg9 arg11 q fh 1 (by decide) ∗ ∃ W', owes (d : Thread nD τ) 0 W') -∗ K ⟨⟩))
      ⊢ runs d (fillFrom arg1 arg3 harg3 arg8 harg8 arg9 harg9 arg11 n c h) K
  | 0, c, h, W => by
    obtain rfl : c = 14 := by omega
    unfold fillFrom copies
    rw [dif_neg (by decide)]
    iintro ⟨H1, H8, ⟨Ha, Hb⟩, HO, Hk⟩
    iapply (runs_pure d)
    iapply Hk
    isplitl [H1]; · iexact H1
    isplitl [H8]
    · iapply (part_mono d (D := fun y => (y 1).val < 256 * 14) (D' := fun _ => True) (fun y _ => ⟨(y 1).isLt, rfl⟩)); iexact H8
    isplitl [Ha]; · iapply (ready_congr d arg3 arg9 arg11 q fh (two 14) _ (by decide)); iexact Ha
    isplitl [Hb]; · iapply (ready_congr d arg3 arg9 arg11 q fh (two 15) _ (by decide)); iexact Hb
    iexists W; iexact HO
  | n + 1, c, h, W => by
    have hc : c < 14 := by omega
    unfold fillFrom
    rw [copies, dif_pos hc]
    iintro ⟨H1, H8, ⟨HF, Hr⟩, HO, Hk⟩
    iapply (runs_bind d)
    iapply (startNext_runs d arg3 harg3 arg9 harg9 arg11 q fh c hc)
    isplitl [Hr]; · iexact Hr
    iintro Hnext
    iapply (runs_bind d)
    iapply (waitCopy_runs d arg3 harg3 arg9 harg9 arg11 q fh c hc _ W)
    isplitl [HF]; · iexact HF
    isplitl [HO]; · iexact HO
    iintro ⟨H9, Hc, H3, ⟨%W', HO⟩⟩
    iapply (runs_bind d)
    iapply (widenChunk_runs d arg1 arg3 arg8 harg8 arg9 fh sw qs c hc)
    isplitl [H1]; · iexact H1
    isplitl [H9]; · iexact H9
    isplitl [H8]; · iexact H8
    iintro ⟨H1, H9, H8⟩
    iapply (fillFrom_runs K n (c + 1) _ W')
    isplitl [H1]; · iexact H1
    isplitl [H8]; · iexact H8
    isplitl [Hnext H9 Hc H3]
    · iapply Hnext
      iapply (ready_landed d arg3 arg9 arg11 q fh c hc)
      isplitl [H9]; · iexact H9
      isplitl [Hc]; · iexact Hc
      iexact H3
    isplitl [HO]; · iexact HO
    iexact Hk

/-- The fill: from both slots ready, the widened weights come to be known and both slots are ready again. -/
theorem fill_runs (K : PUnit → sProp 𝕄) (W : Waits sig Unit) :
    iprop(scales d arg1 sw qs ∗ known d arg8 (wide sw (arg3.view.read (Elt F) fh)) (fun _ => False)
        ∗ ready d arg3 arg9 arg11 q fh 0 (by decide) ∗ ready d arg3 arg9 arg11 q fh 1 (by decide) ∗ owes (d : Thread nD τ) 0 W
        ∗ ((scales d arg1 sw qs ∗ known d arg8 (wide sw (arg3.view.read (Elt F) fh)) (fun _ => True)
            ∗ ready d arg3 arg9 arg11 q fh 0 (by decide) ∗ ready d arg3 arg9 arg11 q fh 1 (by decide) ∗ ∃ W', owes (d : Thread nD τ) 0 W') -∗ K ⟨⟩))
      ⊢ runs d (fill arg1 arg3 harg3 arg8 harg8 arg9 harg9 arg11) K := by
  unfold fill
  iintro ⟨H1, H8, Ha, Hb, HO, Hk⟩
  iapply (runs_bind d)
  iapply (startCopy_runs d arg3 harg3 arg9 harg9 arg11 q fh 0 _)
  isplitl [Ha]; · iapply (ready_congr d arg3 arg9 arg11 q fh (p := 0) (by decide) (two 0) (by decide)); iexact Ha
  iintro HF
  iapply (fillFrom_runs d arg1 arg3 harg3 arg8 harg8 arg9 harg9 arg11 q fh sw qs K 14 0 _ W)
  isplitl [H1]; · iexact H1
  isplitl [H8]
  · iapply (part_mono d (D := fun _ => False) (D' := fun y => (y 1).val < 256 * 0) (fun y hy => absurd hy (by simp))); iexact H8
  isplitl [HF Hb]
  · unfold copies
    rw [dif_pos (by decide)]
    isplitl [HF]; · iexact HF
    iapply (ready_congr d arg3 arg9 arg11 q fh (p := 1) (by decide) (two 1) (by decide)); iexact Hb
  isplitl [HO]; · iexact HO
  iexact Hk

/-! ## The whole body -/

section
variable (X : S256x4736.Idx → Elt F .bf16) (arg2 : Memref sig .tc .vmem S256x4736 .bf16)
  (arg4 : Memref sig .tc .vmem S256x1792 .fp8e4m3) (harg4 : arg4.IsWhole) (arg5 : Memref sig .tc .vmem S256x14 .f32)
  (arg6 : Memref sig .tc .vmem S256x4736 .fp8e4m3) (harg6 : arg6.IsWhole) (arg7 : Memref sig .tc .vmem S256x37 .f32)
  (arg10 : Memref sig .tc .vmem S256x4736 .bf16) (harg10 : arg10.IsWhole)

/-- The body at a point: where the widened weights are known (`D`), or where it fills them itself, its four results come to be
    the block's, and the widened weights are known afterwards. -/
theorem body_runs (i : grid0.Coords) (D : Prop) (hD : k0_cond1 i ≠ 1#1 → D) (K : PUnit → sProp 𝕄) (O : Waits sig Unit) :
    iprop(scales d arg1 sw qs ∗ known d arg2 X (fun _ => True) ∗ known d arg8 (wide sw (arg3.view.read (Elt F) fh)) (fun _ => D)
        ∗ ready d arg3 arg9 arg11 q fh 0 (by decide) ∗ ready d arg3 arg9 arg11 q fh 1 (by decide)
        ∗ known d arg4 (hCodes (xWide X) (wide sw (arg3.view.read (Elt F) fh))) (fun _ => False)
        ∗ known d arg5 (hScales (xWide X) (wide sw (arg3.view.read (Elt F) fh))) (fun _ => False)
        ∗ known d arg6 (xCodes X) (fun _ => False) ∗ known d arg7 (xScales X) (fun _ => False) ∗ known d arg10 (xWide X) (fun _ => False)
        ∗ owes (d : Thread nD τ) 0 O
        ∗ ((scales d arg1 sw qs ∗ known d arg2 X (fun _ => True) ∗ known d arg8 (wide sw (arg3.view.read (Elt F) fh)) (fun _ => True)
            ∗ ready d arg3 arg9 arg11 q fh 0 (by decide) ∗ ready d arg3 arg9 arg11 q fh 1 (by decide)
            ∗ known d arg4 (hCodes (xWide X) (wide sw (arg3.view.read (Elt F) fh))) (fun _ => True)
            ∗ known d arg5 (hScales (xWide X) (wide sw (arg3.view.read (Elt F) fh))) (fun _ => True)
            ∗ known d arg6 (xCodes X) (fun _ => True) ∗ known d arg7 (xScales X) (fun _ => True) ∗ known d arg10 (xWide X) (fun _ => False)
            ∗ ∃ O', owes (d : Thread nD τ) 0 O') -∗ K ⟨⟩))
      ⊢ runs d (body i arg1 arg2 arg3 harg3 arg4 harg4 arg5 arg6 harg6 arg7 arg8 harg8 arg9 harg9 arg10 harg10 arg11) K := by
  unfold body
  extract_lets jp
  iintro ⟨H1, H2, H8, Ha, Hb, H4, H5, H6, H7, H10, HO, Hk⟩
  by_cases h : k0_cond1 i = 1#1
  · rw [dif_pos h]
    iapply (runs_bind d)
    iapply (fill_runs d arg1 arg3 harg3 arg8 harg8 arg9 harg9 arg11 q fh sw qs _ O)
    isplitl [H1]; · iexact H1
    isplitl [H8]; · iapply (part_mono d (D := fun _ => D) (D' := fun _ => False) (fun y hy => absurd hy (by simp))); iexact H8
    isplitl [Ha]; · iexact Ha
    isplitl [Hb]; · iexact Hb
    isplitl [HO]; · iexact HO
    iintro ⟨H1, H8, Ha, Hb, HO⟩
    iapply (lines_runs X (wide sw (arg3.view.read (Elt F) fh)) d arg2 arg4 harg4 arg5 arg6 harg6 arg7 arg8 arg10 harg10 _)
    isplitl [H2]; · iexact H2
    isplitl [H8]; · iexact H8
    isplitl [H4]; · iexact H4
    isplitl [H5]; · iexact H5
    isplitl [H6]; · iexact H6
    isplitl [H7]; · iexact H7
    isplitl [H10]; · iexact H10
    iintro ⟨H2, H8, H4, H5, H6, H7, H10⟩
    iapply Hk
    isplitl [H1]; · iexact H1
    isplitl [H2]; · iexact H2
    isplitl [H8]; · iexact H8
    isplitl [Ha]; · iexact Ha
    isplitl [Hb]; · iexact Hb
    isplitl [H4]; · iexact H4
    isplitl [H5]; · iexact H5
    isplitl [H6]; · iexact H6
    isplitl [H7]; · iexact H7
    isplitl [H10]; · iexact H10
    iexact HO
  · rw [dif_neg h]
    iapply (lines_runs X (wide sw (arg3.view.read (Elt F) fh)) d arg2 arg4 harg4 arg5 arg6 harg6 arg7 arg8 arg10 harg10 _)
    isplitl [H2]; · iexact H2
    isplitl [H8]; · iapply (part_mono d (D := fun _ => D) (D' := fun _ => True) (fun y _ => ⟨hD h, rfl⟩)); iexact H8
    isplitl [H4]; · iexact H4
    isplitl [H5]; · iexact H5
    isplitl [H6]; · iexact H6
    isplitl [H7]; · iexact H7
    isplitl [H10]; · iexact H10
    iintro ⟨H2, H8, H4, H5, H6, H7, H10⟩
    iapply Hk
    isplitl [H1]; · iexact H1
    isplitl [H2]; · iexact H2
    isplitl [H8]; · iexact H8
    isplitl [Ha]; · iexact Ha
    isplitl [Hb]; · iexact Hb
    isplitl [H4]; · iexact H4
    isplitl [H5]; · iexact H5
    isplitl [H6]; · iexact H6
    isplitl [H7]; · iexact H7
    isplitl [H10]; · iexact H10
    iexists O; iexact HO

end

end Cert.KernelIdeal.Hand

end
-- ==== Proof.Run.lean ====
/- The launch: the invariant between grid points, the body's obligation at a point, the run of @main, and its frame. -/
module

public import proofs.«01_k».proof.Proof.Point
public import proofs.«01_k».proof.Proof.Gen.KernelIdeal.Frame
public import Idealize.ShloMosaic.Lib.Pipeline.Frame

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds between points -/

/-- The weights in HBM, the widened weights, the staged codes and the widened block of `x`: whole buffers. -/
abbrev gM : Memref sig .tc .hbm S4736x3584 .fp8e4m3 := Memref.whole main_arg1
abbrev wM : Memref sig .tc .vmem S4736x3584 .bf16 := Memref.whole cc0_scratch0
abbrev sM : Memref sig .tc .vmem S2x4736x256 .fp8e4m3 := Memref.whole cc0_scratch1
abbrev xM : Memref sig .tc .vmem S256x4736 .bf16 := Memref.whole cc0_scratch2

/-- The two copy counters. -/
abbrev osem0 : Fin 2 → SemLoc sig := fun j => (![SemLoc.dma 11, SemLoc.dma 12] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
/-- The weights, left in HBM: no window's array. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(gM.view.loc (c : Thread nD τ) ↦{fullShare} V m c main_arg1) := by
  rw [BI.bigSep_eq_bigSepL_of_eq [main_arg1] (by decide) (by decide)]; rfl

/-- The share of the weights a slot's copies read. -/
def half (p : Nat) : PosShare TreeShare := if p = 0 then fullShare.left else fullShare.right

/-- The weights' codes, the weights' scales, and the widened weights. -/
abbrev codesG (c : Dev nD) : S4736x3584.Idx → Elt F .fp8e4m3 := gM.view.read (Elt F) (V m c main_arg1)
abbrev scalesG (c : Dev nD) : S37x28.Idx → Elt F .f32 := V m c main_arg2
abbrev wideG (c : Dev nD) : S4736x3584.Idx → Elt F .bf16 := wide (scalesG m c) (codesG m c)

/-- What the kernel holds between points: the widened weights, known when `D`; both slots ready; what is left of the staging
    buffer; the widened block; the generator. -/
def Inv (c : Dev nD) (D : Prop) : sProp 𝕄 :=
  iprop(known c wM (wideG m c) (fun _ => D)
    ∗ ready c gM sM cc0_scratch3 half (V m c main_arg1) 0 (by decide) ∗ ready c gM sM cc0_scratch3 half (V m c main_arg1) 1 (by decide)
    ∗ (∃ f, sM.view.loc (c : Thread nD τ) ↦[(Finset.univ \ slotSet c sM 0 (by decide)) \ slotSet c sM 1 (by decide)]{fullShare} f)
    ∗ (∃ f, xM.view.loc (c : Thread nD τ) ↦[xM.view.set]{fullShare} f) ∗ (∃ r, prngReg c r))

theorem slots_disjoint (c : Dev nD) : Disjoint (slotSet c sM 1 (by decide)) (slotSet c sM 0 (by decide)) := by
  unfold slotSet
  rw [View.set_slice, View.set_slice]
  exact (Finset.disjoint_map _).mpr (Rect.disjoint_of_separated _ _ 0 (by decide))

theorem cell_0 (c : Dev nD) : (semVal ((c : Thread nD τ), .dma (cellP cc0_scratch3 0 (by decide))) 0 : sProp 𝕄) = semVal ((c : Thread nD τ), SemLoc.dma 11) 0 := rfl
theorem cell_1 (c : Dev nD) : (semVal ((c : Thread nD τ), .dma (cellP cc0_scratch3 1 (by decide))) 0 : sProp 𝕄) = semVal ((c : Thread nD τ), SemLoc.dma 12) 0 := rfl

theorem gM_set : (gM.view).set = Finset.univ := View.set_whole _
theorem wM_set : (wM.view).set = Finset.univ := View.set_whole _
theorem xM_set : (xM.view).set = Finset.univ := View.set_whole _

/-- The invariant at launch, -/
theorem inv_in (c : Dev nD) : Pipeline.ΦD osem0 spec0 H0 (V m) c ⊢ Inv m c False := by
  rw [Pipeline.ΦD_eq, scopedRest0_eq, ownSems00_eq, hbmPts0_eq]
  unfold Inv known part ready
  rw [cell_0, cell_1, gM_set, wM_set, xM_set]
  iintro ⟨⟨⟨%f0, H0⟩, ⟨%f1, H1⟩, ⟨%f2, H2⟩⟩, Hg, ⟨Hs0, Hs1⟩, Hw⟩
  ihave H1 := (pointsTo_split_subset (Finset.subset_univ (slotSet c sM 0 (by decide)))).1 $$ H1
  icases H1 with ⟨Ha, Hr⟩
  ihave Hr := (pointsTo_split_subset (Finset.subset_sdiff.mpr ⟨Finset.subset_univ (slotSet c sM 1 (by decide)), slots_disjoint c⟩)).1 $$ Hr
  icases Hr with ⟨Hb, Hr⟩
  ihave Hw := (pointsTo_share (PosShare.mem_left_op_right fullShare)).1 $$ Hw
  icases Hw with ⟨Hwl, Hwr⟩
  isplitl [H0]
  · iexists f0; isplitr; · ipureintro; exact fun _ h => h.elim
    iexact H0
  isplitl [Ha Hs0 Hwl]
  · isplitl [Ha]; · iexists f1; iexact Ha
    isplitl [Hs0]; · iexact Hs0
    iexact Hwl
  isplitl [Hb Hs1 Hwr]
  · isplitl [Hb]; · iexists f1; iexact Hb
    isplitl [Hs1]; · iexact Hs1
    iexact Hwr
  isplitl [Hr]; · iexists f1; iexact Hr
  isplitl [H2]; · iexists f2; iexact H2
  iexact Hg

/-- and at the end. -/
theorem inv_out (c : Dev nD) (D : Prop) : Inv m c D ⊢ Pipeline.ΦD osem0 spec0 H0 (V m) c := by
  rw [Pipeline.ΦD_eq, scopedRest0_eq, ownSems00_eq, hbmPts0_eq]
  unfold Inv known part ready
  rw [cell_0, cell_1, gM_set, wM_set, xM_set]
  iintro ⟨⟨%f0, -, H0⟩, ⟨⟨%fa, Ha⟩, Hs0, Hwl⟩, ⟨⟨%fb, Hb⟩, Hs1, Hwr⟩, ⟨%fr, Hr⟩, ⟨%f2, H2⟩, Hg⟩
  ihave Hw := (pointsTo_share (PosShare.mem_left_op_right fullShare)).2 $$ [Hwl Hwr]
  · isplitl [Hwl]; · iexact Hwl
    iexact Hwr
  ihave Hr := (pointsTo_join_subset (Finset.subset_sdiff.mpr ⟨Finset.subset_univ (slotSet c sM 1 (by decide)), slots_disjoint c⟩)) $$ [Hb Hr]
  · isplitl [Hb]; · iexact Hb
    iexact Hr
  ihave Hr := (pointsTo_join_subset (Finset.subset_univ (slotSet c sM 0 (by decide)))) $$ [Ha Hr]
  · isplitl [Ha]; · iexact Ha
    iexact Hr
  isplitl [H0 H2 Hr]
  · isplitl [H0]; · iexists f0; iexact H0
    isplitl [Hr]; · iexists _; iexact Hr
    iexists f2; iexact H2
  isplitl [Hg]; · iexact Hg
  isplitl [Hs0 Hs1]
  · isplitl [Hs0]; · iexact Hs0
    iexact Hs1
  iexact Hw

/-! ## The proof data -/

/-- The block of `x` at point `t`. -/
abbrev blkX (c : Dev nD) (t : Fin cfg0.N) : S256x4736.Idx → Elt F .bf16 := iblk m c 1 t

/-- The proof data: the arrays as the region finds them, the inputs' buffers at their blocks, the outputs' at the block's
    results, the invariant with the widened weights known past the first point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => hCodes (xWide (blkX m c t)) (wideG m c)
    | ⟨3, _⟩ => hScales (xWide (blkX m c t)) (wideG m c)
    | ⟨4, _⟩ => xCodes (blkX m c t)
    | ⟨5, _⟩ => xScales (blkX m c t)
  Φ t := Inv m c (0 < t.val)
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = hCodes (xWide (blkX m c t)) (wideG m c) := by dsimp only [dats]
theorem after0_3 (c : Dev nD) (t : Fin cfg0.N) : (dats m 0 c).after 3 t = hScales (xWide (blkX m c t)) (wideG m c) := by dsimp only [dats]
theorem after0_4 (c : Dev nD) (t : Fin cfg0.N) : (dats m 0 c).after 4 t = xCodes (blkX m c t) := by dsimp only [dats]
theorem after0_5 (c : Dev nD) (t : Fin cfg0.N) : (dats m 0 c).after 5 t = xScales (blkX m c t) := by dsimp only [dats]

/-- Each input's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The scales' window is the whole of the scales at every point. -/
theorem iblk0 (c : Dev nD) (t : Fin cfg0.N) : (iblk m c 0 t : S37x28.Idx → Elt F .f32) = scalesG m c := by
  funext y
  show V m c main_arg2 _ = V m c main_arg2 _
  congr 1
  refine funext fun a => Fin.ext ?_
  fin_cases a <;> exact (Nat.zero_add _).trans (Nat.one_mul _)

/-! ## The body's obligation at a point -/

/-- The body fills the widened weights at the first point. -/
theorem fills_first (t : Fin cfg0.N) (h : k0_cond1 (grid0.coords t) ≠ 1#1) : 0 < t.val := by
  rcases fin_N0 t with rfl | rfl | rfl | rfl | rfl | rfl | rfl | rfl | rfl | rfl | rfl | rfl
  · exact absurd (by decide +kernel) h
  all_goals decide

/-- A memref owned at contents is known everywhere, -/
theorem known_of_owns (c : Dev nD) {s : Shape} {e : EltTy} (M : Memref sig .tc .vmem s e) (X : s.Idx → Elt F e) :
    (owns (c : Thread nD τ) M fullShare X : sProp 𝕄) ⊢ known c M X (fun _ => True) := by
  unfold owns known part
  iintro ⟨%f, %h, H⟩
  iexists f; isplitr; · ipureintro; exact fun y _ => congrFun h y
  iexact H
/-- and back, -/
theorem owns_of_known (c : Dev nD) {s : Shape} {e : EltTy} (M : Memref sig .tc .vmem s e) (X : s.Idx → Elt F e) :
    known c M X (fun _ => True) ⊢ (owns (c : Thread nD τ) M fullShare X : sProp 𝕄) := by
  unfold owns known part
  iintro ⟨%f, %h, H⟩
  iexists f; isplitr; · ipureintro; exact funext fun y => h y trivial
  iexact H
/-- and may be known nowhere. -/
theorem unknown_of_owns (c : Dev nD) {s : Shape} {e : EltTy} (M : Memref sig .tc .vmem s e) (X T : s.Idx → Elt F e) :
    (owns (c : Thread nD τ) M fullShare X : sProp 𝕄) ⊢ known c M T (fun _ => False) :=
  (known_of_owns c M X).trans (part_mono c (fun y h => h.elim))

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point, as the program text prints it. -/
theorem bodyAt0_eq (t : Fin cfg0.N) : bodyAt0 (F := F) t
    = body (grid0.coords t) (st0_0 t) (st0_1 t) gM (Memref.isWhole_whole _) (st0_2 t) (hstage0_2 ((cfg0.slots t 2).cast nbuf0_2)) (st0_3 t)
        (st0_4 t) (hstage0_4 ((cfg0.slots t 4).cast nbuf0_4)) (st0_5 t) wM (Memref.isWhole_whole _) sM (Memref.isWhole_whole _)
        xM (Memref.isWhole_whole _) cc0_scratch3 := by
  unfold bodyAt0
  rw [cc0_geglu_eq_skeleton, geglu_eq]

theorem sound_body (c : Dev nD) (t : Fin cfg0.N) :
    bodyPre m c t ⊢ wp frame (wpE (defs₀ (F := F)) Variants.none c none) Set.univ (bodyAt0 t) (fun _ => bodyPost m c t) := by
  rw [bodyAt0_eq]
  unfold bodyPre bodyPost
  simp only [before0_0, before0_1]
  rw [show (dats m 0 c).Φ t.succ = Inv m c (0 < t.succ.val) from rfl, show (dats m 0 c).Φ t.castSucc = Inv m c (0 < t.castSucc.val) from rfl,
    after0_0, after0_1, after0_2, after0_3, after0_4, after0_5]
  unfold Dat.owesAt Pipeline.owesWithin
  rw [show (dats m 0 c).owed t.castSucc = 0 from rfl, show (dats m 0 c).owed t.succ = 0 from rfl, iblk0]
  unfold Inv
  iintro ⟨⟨H8, Ha, Hb, Hr, ⟨%fx, H10⟩, Hg⟩, ⟨%O, %hO, HO⟩, ⟨%d0, H1⟩, ⟨%d1, H2⟩, ⟨%d2, H4⟩, ⟨%d3, H5⟩, ⟨%d4, H6⟩, ⟨%d5, H7⟩⟩
  iapply (body_runs c (st0_0 t) gM (Memref.isWhole_whole _) wM (Memref.isWhole_whole _) sM (Memref.isWhole_whole _) cc0_scratch3 half (V m c main_arg1)
    (scalesG m c) fullShare (blkX m c t) (st0_1 t) (st0_2 t) (hstage0_2 ((cfg0.slots t 2).cast nbuf0_2)) (st0_3 t)
    (st0_4 t) (hstage0_4 ((cfg0.slots t 4).cast nbuf0_4)) (st0_5 t) xM (Memref.isWhole_whole _) (grid0.coords t) (0 < t.castSucc.val) (fills_first t) _ O)
  isplitl [H1]
  · unfold scales part owns
    icases H1 with ⟨%f, %h, H⟩
    iexists f; isplitr; · ipureintro; exact fun y _ => congrFun h y
    iexact H
  isplitl [H2]; · iapply (known_of_owns c); iexact H2
  isplitl [H8]; · iexact H8
  isplitl [Ha]; · iexact Ha
  isplitl [Hb]; · iexact Hb
  isplitl [H4]; · iapply (unknown_of_owns c); iexact H4
  isplitl [H5]; · iapply (unknown_of_owns c); iexact H5
  isplitl [H6]; · iapply (unknown_of_owns c); iexact H6
  isplitl [H7]; · iapply (unknown_of_owns c); iexact H7
  isplitl [H10]
  · unfold known part
    iexists fx; isplitr; · ipureintro; exact fun _ h => h.elim
    iexact H10
  isplitl [HO]; · iexact HO
  iintro ⟨H1, H2, H8, Ha, Hb, H4, H5, H6, H7, H10, ⟨%O', HO⟩⟩
  isplitl [H8 Ha Hb Hr H10 Hg]
  · isplitl [H8]; · iapply (part_mono c (D := fun _ => True) (D' := fun _ => 0 < t.succ.val) (fun y _ => ⟨trivial, rfl⟩)); iexact H8
    isplitl [Ha]; · iexact Ha
    isplitl [Hb]; · iexact Hb
    isplitl [Hr]; · iexact Hr
    isplitl [H10]
    · unfold known part
      icases H10 with ⟨%f, -, H⟩
      iexists f; iexact H
    iexact Hg
  isplitl [HO]
  · iexists O'; isplitr; · ipureintro; exact fun _ _ => Or.inl trivial
    iexact HO
  isplitl [H1]
  · unfold scales part owns
    icases H1 with ⟨%f, %h, H⟩
    iexists f; isplitr; · ipureintro; exact funext fun y => h y trivial
    iexact H
  isplitl [H2]; · iapply (owns_of_known c); iexact H2
  isplitl [H4]; · iapply (owns_of_known c); iexact H4
  isplitl [H5]; · iapply (owns_of_known c); iexact H5
  isplitl [H6]; · iapply (owns_of_known c); iexact H6
  iapply (owns_of_known c); iexact H7

/-- The body table's row at the point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 800000 in
/-- @main up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution of @main ends with each window's array at the proof data's final contents, every other unscoped buffer as the
    region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => (inv_in m c).trans (by rw [show (dats m 0 c).Φ 0 = Inv m c (0 < 0) from rfl, show (0 < 0) = False from by simp]))
    (hout := fun c => inv_out m c _)

/-- @main leaves its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c)))⟩, h.2⟩) (run_main m ρ)

end Cert.KernelIdeal.Hand

end
-- ==== Proof.Twin.lean ====
/- The printed kernel and its idealization are one text; what is proved of the second at any floats is read of the first. -/
module

public import proofs.«01_k».proof.Proof.Run
public import proofs.«01_k».proof.Proof.Gen.Kernel
public import proofs.«01_k».proof.Defs

@[expose] public section

noncomputable section

namespace Cert.KernelIdeal.Hand

open Idealize.ShloMosaic Idealize.SL.Sem

/-- The kernel's frame claim, at the idealization's own names. -/
theorem quiescent_eq :
    @Cert.quiescent_Kernel Cert.Kernel.Gen.facts = (∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0)) := by
  chain_rfl

/-- The kernel runs, leaves its arguments, and ends with every counter at zero. -/
theorem quiescent : @Cert.quiescent_Kernel Cert.Kernel.Gen.facts := by
  rw [quiescent_eq]
  exact fun m g _ => frame (F := Bits) m g

end Cert.KernelIdeal.Hand

end
-- ==== Proof.Scale.lean ====
/- The power of two that scales a group: the kernel finds its word by searching the 256 exponent fields, the reference computes
   it as `2 ^ (floor (log q / log 2) + 1)`. Over the extended reals the two agree at every `0 ≤ q`. -/
module

public import Idealize.ShloMosaic.PureOps.Ideal.Laws
public import Idealize.ShloMosaic.Lib.Pointwise
public import Idealize.ShloMosaic.Lib.SortNet.Extract
public import Mathlib.Analysis.SpecialFunctions.Pow.Real

@[expose] public section

set_option maxRecDepth 65536

noncomputable section

namespace Cert.Spec

open Idealize.ShloMosaic

/-! ## The two computations -/

/-- The word with exponent field `k`, -/
def field (k : Fin 256) : BitVec 32 := IntOp.shli ArithUnit.vector (BitVec.ofNat 32 k) 23#32
/-- the float it denotes, -/
def threshold (k : Fin 256) : EReal := Ideal.ofBits .f32 (field k)
/-- and the word the search records for it: itself, or infinity's from `2 ^ 126` on. -/
def found (k : Fin 256) : BitVec 32 := Scalar.select (IntOp.cmpi CmpIPredicate.slt (field k) 2122317824#32) (field k) 2139095040#32

/-- The search: the greatest word recorded for a threshold not above `q`. -/
def best (q : EReal) : BitVec 32 :=
  Finset.univ.fold IntOp.maxsi (2147483648#32) (fun k : Fin 256 => if threshold k ≤ q then found k else 0#32)
/-- The scale's word: one exponent up, or that of `1` where the search finds zero or infinity. -/
def word (q : EReal) : BitVec 32 :=
  Scalar.select (IntOp.ori (IntOp.cmpi CmpIPredicate.eq (best q) 0#32) (IntOp.cmpi CmpIPredicate.eq (best q) 2139095040#32))
    (1065353216#32) (IntOp.addi (best q) 8388608#32)

/-- The exponent, unless it is out of the normal range, -/
def rawExpo (q : EReal) : EReal :=
  Ideal.liftRound Int.floor (Ideal.div (Ideal.log q) (Ideal.log (Ideal.ofBits .f32 0x40000000#32))) + Ideal.ofBits .f32 0x3F800000#32
/-- and the exponent: zero out of that range. -/
def expo (q : EReal) : EReal :=
  Scalar.select (IntOp.ori (Ideal.cmp .olt (rawExpo q) (Ideal.ofBits .f32 0xC2FA0000#32)) (Ideal.cmp .ogt (rawExpo q) (Ideal.ofBits .f32 0x42FC0000#32)))
    (Ideal.ofBits .f32 0x00000000#32) (rawExpo q)

/-! ## The thresholds -/

theorem field_parts : ∀ k : Fin 256, (field k).extractLsb' 31 1 = 0#1 ∧ ((field k).extractLsb' 23 8).toNat = k.val ∧ ((field k).extractLsb' 0 23).toNat = 0 := by
  decide +kernel

theorem threshold_zero : threshold 0 = 0 := by
  obtain ⟨h1, h2, h3⟩ := field_parts 0
  simp [threshold, Ideal.ofBits, Ideal.ieee, h2, h3]

/-- A positive word with exponent field `k` and no fraction is `2 ^ (k - 127)`. -/
theorem ofBits_normal (b : BitVec 32) (k : ℕ) (h0 : 0 < k) (h1 : k < 255) (hs : b.extractLsb' 31 1 = 0#1) (he : (b.extractLsb' 23 8).toNat = k)
    (hf : (b.extractLsb' 0 23).toNat = 0) : Ideal.ofBits .f32 b = (((2 : ℝ) ^ ((k : ℤ) - 127) : ℝ) : EReal) := by
  have e1 : ¬ k = 2 ^ 8 - 1 := by omega
  have e0 : ¬ k = 0 := by omega
  unfold Ideal.ofBits Ideal.ieee
  simp only [Nat.reduceAdd, hs, he, hf, e0, e1, if_false]
  refine congrArg (fun r : ℝ => (r : EReal)) ?_
  have e : ((0#1 : BitVec 1) == 1#1) = false := rfl
  simp only [e]
  have e2 : ((2 ^ 23 + 0 : ℕ) : ℝ) = (2 : ℝ) ^ (23 : ℤ) := by norm_num
  rw [e2, if_neg Bool.false_ne_true, one_mul, ← zpow_add₀ (by norm_num)]
  congr 1
  norm_num

theorem threshold_normal (k : Fin 256) (h0 : 0 < k.val) (h1 : k.val < 255) : threshold k = (((2 : ℝ) ^ ((k.val : ℤ) - 127) : ℝ) : EReal) :=
  ofBits_normal _ _ h0 h1 (field_parts k).1 (field_parts k).2.1 (field_parts k).2.2

theorem field_some : field 127 = 0x3F800000#32 ∧ field 128 = 0x40000000#32 := by decide +kernel

theorem one_eq : Ideal.ofBits .f32 0x3F800000#32 = 1 := by
  have h := threshold_normal 127 (by decide) (by decide)
  unfold threshold at h; rw [field_some.1] at h
  rw [h]; norm_num
theorem two_eq : Ideal.ofBits .f32 0x40000000#32 = ((2 : ℝ) : EReal) := by
  have h := threshold_normal 128 (by decide) (by decide)
  unfold threshold at h; rw [field_some.2] at h
  rw [h]; norm_num
theorem low_eq : Ideal.ofBits .f32 0xC2FA0000#32 = ((-125 : ℝ) : EReal) := by
  simp [Ideal.ofBits, Ideal.ieee, ← EReal.coe_mul]; norm_num
theorem high_eq : Ideal.ofBits .f32 0x42FC0000#32 = ((126 : ℝ) : EReal) := by
  simp [Ideal.ofBits, Ideal.ieee, ← EReal.coe_mul]; norm_num

/-! ## The search -/

theorem found_toInt : ∀ k : Fin 256, (found k).toInt = if k.val < 253 then (k.val : ℤ) * 8388608 else 2139095040 := by decide +kernel

/-- A word recorded for a threshold not above `q`, and not below any other such, is the one found. -/
theorem best_eq (q : EReal) (K : Fin 256) (hK : threshold K ≤ q) (h : ∀ k, threshold k ≤ q → (found k).toInt ≤ (found K).toInt) : best q = found K := by
  obtain ⟨-, h2, h3⟩ := SortNet.fold_maxsi_spec (fun k : Fin 256 => if threshold k ≤ q then found k else 0#32) Finset.univ (2147483648#32)
  have hpos : ∀ k : Fin 256, 0 ≤ (found k).toInt := by decide +kernel
  refine BitVec.eq_of_toInt_eq (le_antisymm ?_ ?_)
  · rcases h3 with h3 | ⟨k, -, h3⟩
    · unfold best; rw [h3]; exact le_trans (by decide) (hpos K)
    · unfold best; rw [h3]
      show (if threshold k ≤ q then found k else 0#32).toInt ≤ _
      split
      · next hk => exact h k hk
      · exact le_trans (by decide) (hpos K)
  · have := h2 K (Finset.mem_univ _)
    simp only [hK, if_true] at this
    exact this

/-- The search at zero and below the normal numbers, -/
theorem best_small (q : EReal) (h0 : 0 ≤ q) (h : q < (((2 : ℝ) ^ (-126 : ℤ) : ℝ) : EReal)) : best q = 0#32 := by
  rw [best_eq q 0 (by rw [threshold_zero]; exact h0), show found 0 = 0#32 by decide]
  intro k hk
  by_cases hz : k = 0
  · rw [hz]
  exfalso
  refine absurd (lt_of_le_of_lt hk h) (not_lt.mpr ?_)
  by_cases hb : k.val < 255
  · rw [threshold_normal k (by omega) hb]
    exact EReal.coe_le_coe_iff.mpr (zpow_le_zpow_right₀ (by norm_num) (by omega))
  · have : k = 255 := by omega
    subst this
    rw [show threshold 255 = ⊤ by obtain ⟨h1, h2, h3⟩ := field_parts 255; simp [threshold, Ideal.ofBits, Ideal.ieee, h1, h2, h3]]
    exact le_top
/-- from `2 ^ 126` on, -/
theorem best_large (q : EReal) (h : (((2 : ℝ) ^ (126 : ℤ) : ℝ) : EReal) ≤ q) : best q = 2139095040#32 := by
  rw [best_eq q 253 (by rw [threshold_normal 253 (by decide) (by decide)]; exact le_trans (le_of_eq (by norm_num)) h), show found 253 = 2139095040#32 by decide]
  intro k _
  rw [found_toInt k, found_toInt 253]
  simp only [show ((253 : Fin 256) : ℕ) = 253 from rfl]
  split <;> omega
/-- and in between. -/
theorem best_mid (r : ℝ) (n : ℤ) (hn : (2 : ℝ) ^ n ≤ r) (hn' : r < (2 : ℝ) ^ (n + 1)) (k : Fin 256) (hk : (k.val : ℤ) = n + 127) (h0 : -126 ≤ n) (h1 : n ≤ 125) :
    best (r : EReal) = found k := by
  refine best_eq _ k ?_ ?_
  · rw [threshold_normal k (by omega) (by omega)]
    exact EReal.coe_le_coe_iff.mpr (le_trans (le_of_eq (by congr 1; omega)) hn)
  · intro j hj
    have hle : j.val ≤ k.val := by
      by_contra hlt
      push Not at hlt
      by_cases hb : j.val < 255
      · rw [threshold_normal j (by omega) hb, EReal.coe_le_coe_iff] at hj
        refine absurd (lt_of_le_of_lt hj hn') (not_lt.mpr ?_)
        exact zpow_le_zpow_right₀ (by norm_num) (by omega)
      · have : j = 255 := by omega
        subst this
        rw [show threshold 255 = ⊤ by obtain ⟨h1, h2, h3⟩ := field_parts 255; simp [threshold, Ideal.ofBits, Ideal.ieee, h1, h2, h3]] at hj
        exact absurd hj (by simp)
    rw [found_toInt, found_toInt]
    split <;> split <;> omega

/-! ## The exponent -/

/-- The floor of the base-two logarithm. -/
def lg (r : ℝ) : ℤ := ⌊Real.log r / Real.log 2⌋

theorem lg_le (r : ℝ) (hr : 0 < r) : (2 : ℝ) ^ lg r ≤ r := by
  have h2 : 0 < Real.log 2 := Real.log_pos (by norm_num)
  rw [← Real.log_le_log_iff (by positivity) hr, Real.log_zpow, ← le_div_iff₀ h2]
  exact Int.floor_le _
theorem lt_lg (r : ℝ) (hr : 0 < r) : r < (2 : ℝ) ^ (lg r + 1) := by
  have h2 : 0 < Real.log 2 := Real.log_pos (by norm_num)
  rw [← Real.log_lt_log_iff hr (by positivity), Real.log_zpow, ← div_lt_iff₀ h2]
  push_cast
  exact Int.lt_floor_add_one _

theorem rawExpo_mid (r : ℝ) (hr : 0 < r) : rawExpo (r : EReal) = (((lg r + 1 : ℤ) : ℝ) : EReal) := by
  unfold rawExpo
  rw [two_eq, one_eq]
  have e1 : Ideal.log (r : EReal) = (Real.log r : EReal) := by show (if r ≤ 0 then ⊥ else (Real.log r : EReal)) = _; rw [if_neg (not_le.mpr hr)]
  have e2 : Ideal.log ((2 : ℝ) : EReal) = (Real.log 2 : EReal) := by show (if (2 : ℝ) ≤ 0 then ⊥ else (Real.log 2 : EReal)) = _; rw [if_neg (by norm_num)]
  have h2 : Real.log 2 ≠ 0 := (Real.log_pos (by norm_num)).ne'
  have e3 : Ideal.div (Real.log r : EReal) (Real.log 2 : EReal) = ((Real.log r / Real.log 2 : ℝ) : EReal) := by
    unfold Ideal.div
    rw [if_neg (by exact_mod_cast h2), ← EReal.coe_inv, ← EReal.coe_mul]; rfl
  rw [e1, e2, e3]
  show (((lg r : ℤ) : ℝ) : EReal) + 1 = _
  push_cast; rfl

theorem rawExpo_zero : rawExpo 0 = ⊥ := by
  unfold rawExpo
  rw [two_eq]
  have e1 : Ideal.log (0 : EReal) = ⊥ := by show (if (0 : ℝ) ≤ 0 then ⊥ else (Real.log 0 : EReal)) = _; rw [if_pos le_rfl]
  have e2 : Ideal.log ((2 : ℝ) : EReal) = (Real.log 2 : EReal) := by show (if (2 : ℝ) ≤ 0 then ⊥ else (Real.log 2 : EReal)) = _; rw [if_neg (by norm_num)]
  have h2 : 0 < Real.log 2 := Real.log_pos (by norm_num)
  rw [e1, e2]
  unfold Ideal.div
  rw [if_neg (by exact_mod_cast h2.ne'), ← EReal.coe_inv, EReal.bot_mul_coe_of_pos (inv_pos.mpr h2)]
  exact EReal.bot_add _

theorem rawExpo_top : rawExpo ⊤ = ⊤ := by
  unfold rawExpo
  rw [two_eq, one_eq]
  have e2 : Ideal.log ((2 : ℝ) : EReal) = (Real.log 2 : EReal) := by show (if (2 : ℝ) ≤ 0 then ⊥ else (Real.log 2 : EReal)) = _; rw [if_neg (by norm_num)]
  have h2 : 0 < Real.log 2 := Real.log_pos (by norm_num)
  rw [show Ideal.log (⊤ : EReal) = ⊤ from rfl, e2]
  unfold Ideal.div
  rw [if_neg (by exact_mod_cast h2.ne'), ← EReal.coe_inv, EReal.top_mul_coe_of_pos (inv_pos.mpr h2)]
  exact EReal.top_add_coe 1

theorem select_ofBool {α : Type} (p : Prop) [Decidable p] (a b : α) : Scalar.select (BitVec.ofBool (decide p)) a b = if p then a else b := by
  by_cases h : p <;> simp [Scalar.select, h]
theorem ori_ofBool (a b : Bool) : IntOp.ori (BitVec.ofBool a) (BitVec.ofBool b) = BitVec.ofBool (a || b) := by cases a <;> cases b <;> rfl

theorem expo_eq (q : EReal) : expo q = if rawExpo q < ((-125 : ℝ) : EReal) ∨ ((126 : ℝ) : EReal) < rawExpo q then 0 else rawExpo q := by
  unfold expo Ideal.cmp
  rw [low_eq, high_eq, Ideal.ofBits_zero_f32, ori_ofBool, ← Bool.decide_or, select_ofBool]

theorem word_eq (q : EReal) : word q = if best q = 0#32 ∨ best q = 2139095040#32 then 1065353216#32 else best q + 8388608#32 := by
  unfold word IntOp.cmpi IntOp.addi
  simp only [← Bool.beq_eq_decide_eq, ori_ofBool]
  rw [show ((best q == 0#32) || (best q == 2139095040#32)) = decide (best q = 0#32 ∨ best q = 2139095040#32) by simp [Bool.decide_or, beq_iff_eq]; rfl, select_ofBool]

/-! ## They agree -/

/-- The scale out of the normal range is `1`, and so is its reciprocal. -/
theorem unit_scale (q : EReal) (hw : word q = 1065353216#32) (he : expo q = 0) :
    Ideal.ofBits .f32 (word q) = Ideal.exp2 (expo q) ∧ Ideal.ofBits .f32 (IntOp.subi 2130706432#32 (word q)) = Ideal.exp2 (0 - expo q) := by
  have e : Ideal.exp2 0 = 1 := by show ((Real.rpow 2 0 : ℝ) : EReal) = 1; simp
  rw [hw, he, show IntOp.subi 2130706432#32 1065353216#32 = (1065353216#32 : BitVec 32) by decide, one_eq, sub_zero, e]
  exact ⟨rfl, rfl⟩

theorem normal_words : ∀ j : Fin 252, ¬ (found ⟨j.val + 1, by omega⟩ = 0#32 ∨ found ⟨j.val + 1, by omega⟩ = 2139095040#32)
    ∧ found ⟨j.val + 1, by omega⟩ + 8388608#32 = field ⟨j.val + 2, by omega⟩
    ∧ IntOp.subi 2130706432#32 (field ⟨j.val + 2, by omega⟩) = field ⟨252 - j.val, by omega⟩ := by decide +kernel

/-- The scale of the search is `2` to the exponent, and the word of its reciprocal denotes `2` to minus the exponent. -/
theorem scale_agree (q : EReal) (h0 : 0 ≤ q) :
    Ideal.ofBits .f32 (word q) = Ideal.exp2 (expo q) ∧ Ideal.ofBits .f32 (IntOp.subi 2130706432#32 (word q)) = Ideal.exp2 (0 - expo q) := by
  induction q using EReal.rec with
  | bot => exact absurd h0 (by simp)
  | top =>
    refine unit_scale _ ?_ ?_
    · rw [word_eq, best_large _ le_top, if_pos (Or.inr rfl)]
    · rw [expo_eq, rawExpo_top, if_pos (Or.inr (EReal.coe_lt_top _))]
  | coe r =>
    have h0 : 0 ≤ r := by exact_mod_cast h0
    rcases h0.eq_or_lt with rfl | hr
    · refine unit_scale _ ?_ ?_
      · rw [word_eq, best_small _ (by simp) (by rw [EReal.coe_lt_coe_iff]; positivity), if_pos (Or.inl rfl)]
      · rw [expo_eq, EReal.coe_zero, rawExpo_zero, if_pos (Or.inl (EReal.bot_lt_coe _))]
    have hl := lg_le r hr
    have hu := lt_lg r hr
    generalize hn : lg r = n at hl hu
    have hraw : rawExpo (r : EReal) = (((n + 1 : ℤ) : ℝ) : EReal) := by rw [rawExpo_mid r hr, hn]
    by_cases hs : n < -126
    · refine unit_scale _ ?_ ?_
      · rw [word_eq, best_small _ (by exact_mod_cast hr.le), if_pos (Or.inl rfl)]
        rw [EReal.coe_lt_coe_iff]
        exact lt_of_lt_of_le hu (zpow_le_zpow_right₀ (by norm_num) (by omega))
      · rw [expo_eq, hraw, if_pos]
        left
        rw [EReal.coe_lt_coe_iff]
        have : ((n + 1 : ℤ) : ℝ) ≤ ((-126 : ℤ) : ℝ) := by exact_mod_cast (by omega : n + 1 ≤ -126)
        push_cast at this ⊢; linarith
    by_cases hb : 125 < n
    · refine unit_scale _ ?_ ?_
      · rw [word_eq, best_large, if_pos (Or.inr rfl)]
        rw [EReal.coe_le_coe_iff]
        exact le_trans (zpow_le_zpow_right₀ (by norm_num) (by omega)) hl
      · rw [expo_eq, hraw, if_pos]
        right
        rw [EReal.coe_lt_coe_iff]
        have : ((127 : ℤ) : ℝ) ≤ ((n + 1 : ℤ) : ℝ) := by exact_mod_cast (by omega : 127 ≤ n + 1)
        push_cast at this ⊢; linarith
    have hexpo : expo (r : EReal) = (((n + 1 : ℤ) : ℝ) : EReal) := by
      rw [expo_eq, hraw, if_neg]
      rw [EReal.coe_lt_coe_iff, EReal.coe_lt_coe_iff]
      have h1 : ((-125 : ℤ) : ℝ) ≤ ((n + 1 : ℤ) : ℝ) := by exact_mod_cast (by omega : -125 ≤ n + 1)
      have h2 : ((n + 1 : ℤ) : ℝ) ≤ ((126 : ℤ) : ℝ) := by exact_mod_cast (by omega : n + 1 ≤ 126)
      push_cast at h1 h2 ⊢
      rintro (h | h) <;> linarith
    obtain ⟨j, hj⟩ : ∃ j : ℕ, (j : ℤ) = n + 126 := ⟨(n + 126).toNat, by omega⟩
    have hj' : j < 252 := by omega
    obtain ⟨w1, w2, w3⟩ := normal_words ⟨j, hj'⟩
    have hbest : best (r : EReal) = found ⟨j + 1, by omega⟩ := best_mid r n hl hu _ (by push_cast; omega) (by omega) (by omega)
    have hw : word (r : EReal) = field ⟨j + 2, by omega⟩ := by rw [word_eq, hbest, if_neg w1, w2]
    have hx : ∀ z : ℤ, Ideal.exp2 (((z : ℤ) : ℝ) : EReal) = (((2 : ℝ) ^ z : ℝ) : EReal) := by
      intro z
      show ((Real.rpow 2 (z : ℝ) : ℝ) : EReal) = _
      exact congrArg _ (Real.rpow_intCast 2 z)
    constructor
    · rw [hw, hexpo, hx]
      show threshold _ = _
      rw [threshold_normal _ (by simp) (by simp; omega)]
      congr 2; push_cast; omega
    · rw [hw, w3, hexpo, zero_sub, ← EReal.coe_neg, ← Int.cast_neg, hx]
      show threshold _ = _
      rw [threshold_normal _ (by simp; omega) (by simp; omega)]
      congr 2; simp only []; omega

end Cert.Spec

end
-- ==== Proof.Spec.lean ====
/- What both programs compute, row by row over the extended reals: the quantised groups of a row of `x`, their widened values, the
   products with the widened weights, the gated activation, and its quantised groups. -/
module

public import proofs.«01_k».proof.Proof.Scale

@[expose] public section

noncomputable section

namespace Cert.Spec

open Idealize.ShloMosaic

/-! ## A group of 128 -/

/-- The greatest magnitude of a group, -/
def top (f : Fin 128 → EReal) : EReal :=
  Finset.univ.fold max (Ideal.ofBits .f32 4286578688#32) (fun x : Fin 128 => FloatOps.absf (F := Ideal) (φ := .f32) (f x))
/-- over 448, -/
def quot (f : Fin 128 → EReal) : EReal := top f * Ideal.ofBits .f32 991054117#32
/-- the power of two that scales the group, -/
def scale (f : Fin 128 → EReal) : EReal := Ideal.exp2 (expo (quot f))
/-- its reciprocal, -/
def inv (f : Fin 128 → EReal) : EReal := Ideal.exp2 (0 - expo (quot f))
/-- and the codes. -/
def code (f : Fin 128 → EReal) (j : Fin 128) : EReal :=
  min (Ideal.ofBits .f32 1138753536#32) (max (Ideal.ofBits .f32 3286237184#32) (f j * inv f))

theorem quot_nonneg (f : Fin 128 → EReal) : 0 ≤ quot f := by
  have h : 0 ≤ top f := by
    unfold top
    rw [Finset.le_fold_max]
    right
    refine ⟨0, Finset.mem_univ _, ?_⟩
    show (0 : EReal) ≤ max (f 0) (-(f 0))
    rcases le_total 0 (f 0) with h | h
    · exact le_max_of_le_left h
    · exact le_max_of_le_right (by simpa using EReal.neg_le_neg_iff.mpr h)
  refine mul_nonneg h ?_
  simp [Ideal.ofBits, Ideal.ieee, ← EReal.coe_mul]

/-- The searched word denotes the scale, -/
theorem scale_eq (f : Fin 128 → EReal) : Ideal.ofBits .f32 (word (quot f)) = scale f := (scale_agree _ (quot_nonneg f)).1
/-- and the word of its reciprocal the reciprocal. -/
theorem inv_eq (f : Fin 128 → EReal) : Ideal.ofBits .f32 (IntOp.subi 2130706432#32 (word (quot f))) = inv f := (scale_agree _ (quot_nonneg f)).2

/-! ## A row -/

/-- Group `g` of a row. -/
def grp (x : ℕ → EReal) (g : ℕ) : Fin 128 → EReal := fun j => x (128 * g + j.val)

/-- A row's codes, -/
def codes (x : ℕ → EReal) (c : ℕ) : EReal := code (grp x (c / 128)) ⟨c % 128, Nat.mod_lt _ (by decide)⟩
/-- its scales, -/
def scales (x : ℕ → EReal) (g : ℕ) : EReal := scale (grp x g)
/-- and its codes times their scales. -/
def widened (x : ℕ → EReal) (c : ℕ) : EReal := codes x c * scales x (c / 128)

/-- The weights times their blocks' scales. -/
def weights (G S : ℕ → ℕ → EReal) (d f : ℕ) : EReal := G d f * S (d / 128) (f / 128)

/-- A row of the product. -/
def product (G S : ℕ → ℕ → EReal) (x : ℕ → EReal) (f : ℕ) : EReal := ∑ d : Fin 4736, widened x d.val * weights G S d.val f

/-- The tanh form of gelu of `g`, times `u`. -/
def gated (g u : EReal) : EReal :=
  g * (Ideal.ofBits .f32 1056964608#32 * (1 + Ideal.tanh (Ideal.ofBits .f32 1061962282#32 * (g + Ideal.ofBits .f32 1027024659#32 * (g * (g * g)))))) * u

/-- A row of the gated activation: gate column `f`, up column `1792 + f`. -/
def hidden (G S : ℕ → ℕ → EReal) (x : ℕ → EReal) (f : ℕ) : EReal := gated (product G S x f) (product G S x (1792 + f))

/-! ## Matrices as functions of two numbers -/

/-- A matrix's entry at row `i` and column `j`, zero outside. -/
def mat {a b : ℕ} (X : (⟨2, ![a, b]⟩ : Shape).Idx → EReal) (i j : ℕ) : EReal := if h : i < a ∧ j < b then X (ix2 ⟨i, h.1⟩ ⟨j, h.2⟩) else 0

theorem mat_eq {a b : ℕ} (X : (⟨2, ![a, b]⟩ : Shape).Idx → EReal) {i j : ℕ} (hi : i < a) (hj : j < b) : mat X i j = X (ix2 ⟨i, hi⟩ ⟨j, hj⟩) := dif_pos ⟨hi, hj⟩
theorem mat_apply {a b : ℕ} (X : (⟨2, ![a, b]⟩ : Shape).Idx → EReal) (i : Fin a) (j : Fin b) : mat X i.val j.val = X (ix2 i j) := mat_eq X i.isLt j.isLt

end Cert.Spec

end
-- ==== Proof.KernelValue.lean ====
/- The kernel's block results, at the extended reals, are the specification's, row by row. -/
module

public import proofs.«01_k».proof.Proof.Fill
public import proofs.«01_k».proof.Proof.Lines
public import proofs.«01_k».proof.Proof.Spec

@[expose] public section

set_option maxRecDepth 65536

noncomputable section

namespace Cert.KernelIdeal.Hand

open Idealize.ShloMosaic Cert.KernelIdeal Cert.KernelIdeal.Gen Cert
open Cert.Spec (mat mat_apply mat_eq)

/-! ## One group -/

/-- Row `r` of a group, -/
abbrev rowOf (v : FVec Ideal S256x128 .f32) (r : Fin 256) : Fin 128 → EReal := fun j => v (ix2 r j)

/-- The word searched for row `r` is the specification's. -/
theorem scaleWord_apply (v : FVec Ideal S256x128 .f32) (r : Fin 256) (u : Fin 1) : scaleWord v (ix2 r u) = Spec.word (Spec.quot (rowOf v r)) := by
  unfold scaleWord
  pointwise
  rfl

theorem scaleOf_apply (v : FVec Ideal S256x128 .f32) (r : Fin 256) (u : Fin 1) : scaleOf v (ix2 r u) = Spec.scale (rowOf v r) := by
  rw [← Spec.scale_eq, ← scaleWord_apply v r u]
  rfl

theorem invOf_apply (v : FVec Ideal S256x128 .f32) (r : Fin 256) (j : Fin 128) : invOf v (ix2 r j) = Spec.inv (rowOf v r) := by
  rw [← Spec.inv_eq, ← scaleWord_apply v r 0]
  unfold invOf
  pointwise

theorem codesOf_apply (v : FVec Ideal S256x128 .f32) (r : Fin 256) (j : Fin 128) : codesOf v (ix2 r j) = Spec.code (rowOf v r) j := by
  unfold Spec.code
  rw [← invOf_apply v r j]
  unfold codesOf
  pointwise

theorem widenOf_apply (v : FVec Ideal S256x128 .f32) (r : Fin 256) (j : Fin 128) : widenOf v (ix2 r j) = Spec.code (rowOf v r) j * Spec.scale (rowOf v r) := by
  rw [← codesOf_apply v r j, ← scaleOf_apply v r 0]
  unfold widenOf
  pointwise

/-- The words of two small numbers are equal where the numbers are. -/
theorem select_lane {α : Type} (l g : ℕ) (hl : l < 2 ^ 32) (hg : g < 2 ^ 32) (a b : α) :
    Scalar.select (IntOp.cmpi CmpIPredicate.eq (BitVec.ofNat 32 l) (BitVec.ofNat 32 g)) a b = if l = g then a else b := by
  have e : (BitVec.ofNat 32 l = BitVec.ofNat 32 g) ↔ l = g := by
    rw [← BitVec.toNat_inj, BitVec.toNat_ofNat, BitVec.toNat_ofNat, Nat.mod_eq_of_lt hl, Nat.mod_eq_of_lt hg]
  by_cases h : l = g
  · subst h; simp [Scalar.select, IntOp.cmpi]
  · have h' : (BitVec.ofNat 32 l == BitVec.ofNat 32 g) = false := beq_eq_false_iff_ne.mpr fun hh => h (e.mp hh)
    rw [if_neg h]
    unfold Scalar.select IntOp.cmpi
    simp only [h']
    rfl

theorem xsStep_apply (g : ℕ) (s : FVec Ideal S256x1 .f32) (acc : FVec Ideal S256x37 .f32) (r : Fin 256) (l : Fin 37) (hg : g < 37) :
    xsStep g s acc (ix2 r l) = if l.val = g then s (ix2 r 0) else acc (ix2 r l) := by
  unfold xsStep
  pointwise
  exact select_lane _ _ (by omega) (by omega) _ _

theorem hsStep_apply (g : ℕ) (s : FVec Ideal S256x1 .f32) (acc : FVec Ideal S256x14 .f32) (r : Fin 256) (l : Fin 14) (hg : g < 14) :
    hsStep g s acc (ix2 r l) = if l.val = g then s (ix2 r 0) else acc (ix2 r l) := by
  unfold hsStep
  pointwise
  exact select_lane _ _ (by omega) (by omega) _ _

theorem gateOf_apply (a : Vec Ideal S256x4736 .bf16) (b : Vec Ideal S4736x256 .bf16) (b' : Vec Ideal S4736x256 .bf16) (r : Fin 256) (c : Fin 256) :
    gateOf a b a b' (ix2 r c) = Spec.gated (∑ d : Fin 4736, a (ix2 r d) * b (ix2 d c)) (∑ d : Fin 4736, a (ix2 r d) * b' (ix2 d c)) := by
  unfold gateOf
  pointwise
  unfold Spec.gated
  rw [mul_assoc (∑ d : Fin 4736, a (ix2 r d) * b (ix2 d c)) (∑ d : Fin 4736, a (ix2 r d) * b (ix2 d c))]

theorem halfOf_apply (t : ℕ) (ht : t < 2) (h : FVec Ideal S256x256 .f32) (r : Fin 256) (j : Fin 128) :
    halfOf t ht h (ix2 r j) = h (ix2 r ⟨128 * t + j.val, by omega⟩) := by
  unfold halfOf
  pointwise

theorem weightOf_apply (s : Elt Ideal .f32) (b : Vec Ideal S1x128x128 .fp8e4m3) (i j : Fin 128) : weightOf s b (ix2 i j) = b (ix3 0 i j) * s := by
  unfold weightOf
  pointwise

/-! ## A block -/

/-- The place of a column in its group. -/
theorem inGroup_eq (r : Fin 256) (j : ℕ) : inGroup r j = ix2 r ⟨j % 128, Nat.mod_lt _ (by decide)⟩ := by
  funext a; fin_cases a <;> rfl

section
variable (X : S256x4736.Idx → EReal)

theorem rowOf_xVec (g : ℕ) (hg : g < 37) (r : Fin 256) : rowOf (xVec (F := Ideal) X g hg) r = Spec.grp (mat X r) g := by
  funext j
  unfold Spec.grp
  rw [mat_eq X r.isLt (by have := j.isLt; omega)]
  show X _ = X _
  congr 1
  funext a; apply Fin.ext
  fin_cases a <;> simp [Rect.emb_apply]

theorem xCodes_eq (r : Fin 256) (c : Fin 4736) : xCodes (F := Ideal) X (ix2 r c) = Spec.codes (mat X r) c := by
  unfold xCodes Spec.codes
  rw [← rowOf_xVec X (c.val / 128) (by omega) r, ← codesOf_apply, ← inGroup_eq]
  rfl

theorem xWide_eq (r : Fin 256) (c : Fin 4736) : xWide (F := Ideal) X (ix2 r c) = Spec.widened (mat X r) c := by
  unfold xWide Spec.widened Spec.codes Spec.scales
  rw [← rowOf_xVec X (c.val / 128) (by omega) r, ← widenOf_apply, ← inGroup_eq]
  rfl

/-- The scales put lane by lane from group `g` on: the rest are as they were. -/
theorem xScalesFrom_eq (r : Fin 256) (l : Fin 37) : ∀ (n g : ℕ) (h : g + n = 37) (acc : FVec Ideal S256x37 .f32),
    xScalesFrom (F := Ideal) X n g h acc (ix2 r l) = if g ≤ l.val then Spec.scales (mat X r) l else acc (ix2 r l)
  | 0, g, h, acc => by rw [if_neg (by omega)]; rfl
  | n + 1, g, h, acc => by
    show xScalesFrom (F := Ideal) X n (g + 1) _ (xsStep g (scaleOf (xVec X g _)) acc) (ix2 r l) = _
    rw [xScalesFrom_eq r l n (g + 1) _ _, xsStep_apply _ _ _ _ _ (by omega), scaleOf_apply, rowOf_xVec]
    by_cases h1 : g + 1 ≤ l.val
    · rw [if_pos h1, if_pos (by omega)]
    by_cases h2 : l.val = g
    · rw [if_neg h1, if_pos h2, if_pos (by omega), h2]; rfl
    · rw [if_neg h1, if_neg h2, if_neg (by omega)]

theorem xScales_eq (r : Fin 256) (l : Fin 37) : xScales (F := Ideal) X (ix2 r l) = Spec.scales (mat X r) l := by
  unfold xScales
  rw [xScalesFrom_eq, if_pos (Nat.zero_le _)]

end

theorem wide_eq (S : S37x28.Idx → EReal) (G : S4736x3584.Idx → EReal) (d : Fin 4736) (f : Fin 3584) :
    wide (F := Ideal) S G (ix2 d f) = Spec.weights (mat G) (mat S) d f := by
  rw [wide_at (F := Ideal) S G (k := d.val / 128) (n := f.val / 128) (by omega) (by omega) (ix2 ⟨d.val % 128, Nat.mod_lt _ (by decide)⟩ ⟨f.val % 128, Nat.mod_lt _ (by decide)⟩)
    _ (by show d.val = 128 * (d.val / 128) + d.val % 128; omega) (by show f.val = 128 * (f.val / 128) + f.val % 128; omega), weightOf_apply]
  unfold Spec.weights
  rw [mat_apply, mat_eq S (i := d.val / 128) (j := f.val / 128) (by omega) (by omega)]
  congr 1
  · unfold block
    congr 1
    funext a; apply Fin.ext
    fin_cases a
    · show 128 * (d.val / 128) + d.val % 128 = d.val; omega
    · show 128 * (f.val / 128) + f.val % 128 = f.val; omega
  · congr 1
    funext a; fin_cases a <;> rfl

section
variable (X : S256x4736.Idx → EReal) (S : S37x28.Idx → EReal) (G : S4736x3584.Idx → EReal)

theorem tileVec_eq (j : ℕ) (hj : j < 7) (r : Fin 256) (c : Fin 256) :
    tileVec (F := Ideal) (xWide (F := Ideal) X) (wide (F := Ideal) S G) j hj (ix2 r c) = Spec.hidden (mat G) (mat S) (mat X r) (256 * j + c.val) := by
  unfold tileVec
  rw [gateOf_apply]
  unfold Spec.hidden Spec.product
  have e1 : ∀ d : Fin 4736, (xWide (F := Ideal) X) ((Rect.unit (s := S256x4736) ![0, 0] S256x4736.size inb_S256x4736_S256x4736_0_0).emb (ix2 r d)) = Spec.widened (mat X r) d := by
    intro d
    rw [← xWide_eq]
    congr 1
    funext a; apply Fin.ext
    fin_cases a <;> simp [Rect.emb_apply]
  have e2 : ∀ d : Fin 4736, (wide (F := Ideal) S G) ((Rect.unit (s := S4736x3584) ![0, 256 * j] S4736x256.size (inb_gate hj)).emb (ix2 d c))
      = Spec.weights (mat G) (mat S) d (256 * j + c.val) := by
    intro d
    rw [← wide_eq S G d ⟨256 * j + c.val, by omega⟩]
    congr 1
    funext a; apply Fin.ext
    fin_cases a <;> simp [Rect.emb_apply]
  have e3 : ∀ d : Fin 4736, (wide (F := Ideal) S G) ((Rect.unit (s := S4736x3584) ![0, 1792 + 256 * j] S4736x256.size (inb_up hj)).emb (ix2 d c))
      = Spec.weights (mat G) (mat S) d (1792 + (256 * j + c.val)) := by
    intro d
    rw [← wide_eq S G d ⟨1792 + (256 * j + c.val), by omega⟩]
    congr 1
    funext a; apply Fin.ext
    fin_cases a <;> simp [Rect.emb_apply]
    omega
  congr 1
  · exact Finset.sum_congr rfl fun d _ => congrArg₂ (· * ·) (e1 d) (e2 d)
  · exact Finset.sum_congr rfl fun d _ => congrArg₂ (· * ·) (e1 d) (e3 d)

theorem rowOf_hVec (n : ℕ) (hn : n < 14) (r : Fin 256) :
    rowOf (hVec (F := Ideal) (xWide (F := Ideal) X) (wide (F := Ideal) S G) n hn) r = Spec.grp (Spec.hidden (mat G) (mat S) (mat X r)) n := by
  funext j
  unfold Spec.grp
  show hVec (F := Ideal) (xWide (F := Ideal) X) (wide (F := Ideal) S G) n hn (ix2 r j) = _
  unfold hVec
  rw [halfOf_apply, tileVec_eq]
  congr 1
  show 256 * (n / 2) + (128 * (n % 2) + j.val) = _
  omega

theorem hCodes_eq (r : Fin 256) (c : Fin 1792) :
    hCodes (F := Ideal) (xWide (F := Ideal) X) (wide (F := Ideal) S G) (ix2 r c) = Spec.codes (Spec.hidden (mat G) (mat S) (mat X r)) c := by
  unfold hCodes Spec.codes
  rw [← rowOf_hVec X S G (c.val / 128) (by omega) r, ← codesOf_apply, ← inGroup_eq]
  rfl

/-- The scales put two lanes a tile from tile `j` on: the rest are as they were. -/
theorem hScalesFrom_eq (r : Fin 256) (l : Fin 14) : ∀ (n j : ℕ) (h : j + n = 7) (acc : FVec Ideal S256x14 .f32),
    hScalesFrom (F := Ideal) (xWide (F := Ideal) X) (wide (F := Ideal) S G) n j h acc (ix2 r l)
      = if 2 * j ≤ l.val then Spec.scales (Spec.hidden (mat G) (mat S) (mat X r)) l else acc (ix2 r l)
  | 0, j, h, acc => by rw [if_neg (by omega)]; rfl
  | n + 1, j, h, acc => by
    show hScalesFrom (F := Ideal) (xWide (F := Ideal) X) (wide (F := Ideal) S G) n (j + 1) _ (hsStep (2 * j + 1) (scaleOf (hVec _ _ (2 * j + 1) _)) (hsStep (2 * j) (scaleOf (hVec _ _ (2 * j) _)) acc)) (ix2 r l) = _
    rw [hScalesFrom_eq r l n (j + 1) _ _, hsStep_apply _ _ _ _ _ (by omega), hsStep_apply _ _ _ _ _ (by omega), scaleOf_apply, scaleOf_apply, rowOf_hVec, rowOf_hVec]
    by_cases h1 : 2 * (j + 1) ≤ l.val
    · rw [if_pos h1, if_pos (by omega)]
    rw [if_neg h1]
    by_cases h2 : l.val = 2 * j + 1
    · rw [if_pos h2, if_pos (by omega), h2]; rfl
    rw [if_neg h2]
    by_cases h3 : l.val = 2 * j
    · rw [if_pos h3, if_pos (by omega), h3]; rfl
    · rw [if_neg h3, if_neg (by omega)]

theorem hScales_eq (r : Fin 256) (l : Fin 14) :
    hScales (F := Ideal) (xWide (F := Ideal) X) (wide (F := Ideal) S G) (ix2 r l) = Spec.scales (Spec.hidden (mat G) (mat S) (mat X r)) l := by
  unfold hScales
  rw [hScalesFrom_eq, if_pos (Nat.zero_le _)]

end

end Cert.KernelIdeal.Hand

end
-- ==== Proof.KernelRun.lean ====
/- What the kernel leaves in its four results, over the extended reals: each row's codes and scales, as functions of the arrays
   the launch finds. -/
module

public import proofs.«01_k».proof.Proof.Run
public import proofs.«01_k».proof.Proof.KernelValue
public import Idealize.ShloMosaic.Lib.Pipeline.ValueKit

@[expose] public section

set_option maxRecDepth 65536

noncomputable section

namespace Cert.KernelIdeal.Hand

open Idealize.ShloMosaic Idealize.ShloMosaic.TcCoe Idealize.ShloMosaic.Tactic Cert.KernelIdeal Cert.KernelIdeal.Gen
open Idealize.SL Idealize.SL.Sem
open Cert.Spec (mat mat_apply mat_eq)

variable (m : (ℓ : Loc nD τ sig) → Buf (Elt Ideal) ℓ) (ρ : Dev nD → PrngReg)

/-- The three arrays the launch finds: `x` as rows, the weights' codes, the weights' scales. -/
abbrev inX (c : Dev nD) : S3072x4736.Idx → EReal := V m c main_v0
abbrev inG (c : Dev nD) : S4736x3584.Idx → EReal := V m c main_arg1
abbrev inS (c : Dev nD) : S37x28.Idx → EReal := V m c main_arg2

/-- The row of `x` at which point `t`'s block has its row `r`. -/
theorem blkX_row (c : Dev nD) (t : Fin cfg0.N) (r : Fin 256) :
    mat (blkX m c t) r.val = mat (inX m c) (256 * t.val + r.val) := by
  have ht : t.val < 12 := t.isLt
  have hi : ∀ t : Fin cfg0.N, win0_1.index t = ![t.val, 0] := by decide +kernel
  funext k
  by_cases hk : k < 4736
  · rw [mat_eq (blkX m c t) r.isLt hk, mat_eq (inX m c) (by omega) hk]
    blk_ext [iblk, hi t]
  · simp [mat, hk]

/-! ## The four results -/

/-- What each result holds: the hidden rows' codes and scales, and the codes and scales of the rows of `x`. -/
abbrev outH (c : Dev nD) : S3072x1792.Idx → EReal := fun i => Spec.codes (Spec.hidden (mat (inG m c)) (mat (inS m c)) (mat (inX m c) (i 0).val)) (i 1).val
abbrev outHS (c : Dev nD) : S3072x14.Idx → EReal := fun i => Spec.scales (Spec.hidden (mat (inG m c)) (mat (inS m c)) (mat (inX m c) (i 0).val)) (i 1).val
abbrev outX (c : Dev nD) : S3072x4736.Idx → EReal := fun i => Spec.codes (mat (inX m c) (i 0).val) (i 1).val
abbrev outXS (c : Dev nD) : S3072x37.Idx → EReal := fun i => Spec.scales (mat (inX m c) (i 0).val) (i 1).val

/-- The first result: each point writes its block's rows. -/
theorem final_2 (c : Dev nD) : (dats m 0 c).arrAt 2 cfg0.N = outH m c := by
  have hi : ∀ t : Fin cfg0.N, win0_2.index t = ![t.val, 0] := by decide +kernel
  refine (dats m 0 c).arrAt_eq_of_covers 2 _ (by decide +kernel) fun t hf (y : S256x1792.Idx) => ?_
  unfold outH
  blk_simp [hi t]
  rw [after0_2, Nat.mul_comm]
  exact (congrArg _ (eq_ix2 y)).trans ((hCodes_eq (blkX m c t) (inS m c) (inG m c) (y 0) (y 1)).trans (congrArg (fun x : ℕ → EReal => Spec.codes (Spec.hidden (mat (inG m c)) (mat (inS m c)) x) (y 1).val) (blkX_row m c t (y 0))))

/-- The second. -/
theorem final_3 (c : Dev nD) : (dats m 0 c).arrAt 3 cfg0.N = outHS m c := by
  have hi : ∀ t : Fin cfg0.N, win0_3.index t = ![t.val, 0] := by decide +kernel
  refine (dats m 0 c).arrAt_eq_of_covers 3 _ (by decide +kernel) fun t hf (y : S256x14.Idx) => ?_
  unfold outHS
  blk_simp [hi t]
  rw [after0_3, Nat.mul_comm]
  exact (congrArg _ (eq_ix2 y)).trans ((hScales_eq (blkX m c t) (inS m c) (inG m c) (y 0) (y 1)).trans (congrArg (fun x : ℕ → EReal => Spec.scales (Spec.hidden (mat (inG m c)) (mat (inS m c)) x) (y 1).val) (blkX_row m c t (y 0))))

/-- The third. -/
theorem final_4 (c : Dev nD) : (dats m 0 c).arrAt 4 cfg0.N = outX m c := by
  have hi : ∀ t : Fin cfg0.N, win0_4.index t = ![t.val, 0] := by decide +kernel
  refine (dats m 0 c).arrAt_eq_of_covers 4 _ (by decide +kernel) fun t hf (y : S256x4736.Idx) => ?_
  unfold outX
  blk_simp [hi t]
  rw [after0_4, Nat.mul_comm]
  exact (congrArg _ (eq_ix2 y)).trans ((xCodes_eq (blkX m c t) (y 0) (y 1)).trans (congrArg (fun x : ℕ → EReal => Spec.codes x (y 1).val) (blkX_row m c t (y 0))))

/-- The fourth. -/
theorem final_5 (c : Dev nD) : (dats m 0 c).arrAt 5 cfg0.N = outXS m c := by
  have hi : ∀ t : Fin cfg0.N, win0_5.index t = ![t.val, 0] := by decide +kernel
  refine (dats m 0 c).arrAt_eq_of_covers 5 _ (by decide +kernel) fun t hf (y : S256x37.Idx) => ?_
  unfold outXS
  blk_simp [hi t]
  rw [after0_5, Nat.mul_comm]
  exact (congrArg _ (eq_ix2 y)).trans ((xScales_eq (blkX m c t) (y 0) (y 1)).trans (congrArg (fun x : ℕ → EReal => Spec.scales x (y 1).val) (blkX_row m c t (y 0))))

/-- Every execution of @main ends with the four results at these values and the arguments as launched. -/
theorem run_value : θ_run (defs (F := Ideal)) (onTc (τ := τ) (main (F := Ideal))) ⟨m, fun _ => 0, ρ⟩ (fun r => ∀ c : Dev nD,
      r.2.mem ((c.tc : Thread nD τ).loc main_v1_0) = outH m c
      ∧ r.2.mem ((c.tc : Thread nD τ).loc main_v1_1) = outHS m c
      ∧ r.2.mem ((c.tc : Thread nD τ).loc main_v1_2) = outX m c
      ∧ r.2.mem ((c.tc : Thread nD τ).loc main_v1_3) = outXS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final_2 m c), ((h.1 c).1 3).trans (final_3 m c),
      ((h.1 c).1 4).trans (final_4 m c), ((h.1 c).1 5).trans (final_5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c)))⟩) (run_main m ρ)

end Cert.KernelIdeal.Hand

end
-- ==== Proof.ReferenceValue.lean ====
/- The reference's results, at the extended reals, are the specification's, row by row. -/
module

public import proofs.«01_k».proof.Proof.Gen.ReferenceIdeal.Frame
public import proofs.«01_k».proof.Proof.Spec

@[expose] public section

set_option maxRecDepth 65536

noncomputable section

namespace Cert.ReferenceIdeal.Hand

open Idealize.ShloMosaic Cert.ReferenceIdeal Cert.ReferenceIdeal.Gen Cert
open Cert.Spec (mat mat_apply mat_eq)

/-! ## The exponent of a group, at any shape -/

theorem splat_apply {s : Shape} (x : Ideal .f32) (i : s.Idx) : broadcast s x i = x := rfl

/-- The exponents before their range is checked, -/
def rawExpoOf {s : Shape} (M : FVec Ideal s .f32) : FVec Ideal s .f32 :=
  addf (floor (divf (log (mulf M (broadcast s (FloatOps.ofBits FTy.f32 991054117#32)))) (log (broadcast s (FloatOps.ofBits FTy.f32 1073741824#32)))))
    (broadcast s (FloatOps.ofBits FTy.f32 1065353216#32))
/-- and after, from the groups' greatest magnitudes. -/
def expoOf {s : Shape} (M : FVec Ideal s .f32) : FVec Ideal s .f32 :=
  select (ori (cmpf .olt (rawExpoOf M) (broadcast s (FloatOps.ofBits FTy.f32 0xC2FA0000#32))) (cmpf .ogt (rawExpoOf M) (broadcast s (FloatOps.ofBits FTy.f32 0x42FC0000#32))))
    (broadcast s (FloatOps.ofBits FTy.f32 0x00000000#32)) (rawExpoOf M)

theorem rawExpoOf_apply {s : Shape} (M : FVec Ideal s .f32) (i : s.Idx) : rawExpoOf M i = Spec.rawExpo (M i * Ideal.ofBits FTy.f32 991054117#32) := by
  unfold rawExpoOf Spec.rawExpo
  rw [addf_apply, floor_apply, divf_apply, log_apply, log_apply, mulf_apply, splat_apply, splat_apply, splat_apply, Ideal.addf_def, Ideal.floor_def,
    Ideal.divf_def, Ideal.log_def, Ideal.log_def, Ideal.mulf_def, Ideal.ofBits_def, Ideal.ofBits_def, Ideal.ofBits_def]

theorem expoOf_apply {s : Shape} (M : FVec Ideal s .f32) (i : s.Idx) : expoOf M i = Spec.expo (M i * Ideal.ofBits FTy.f32 991054117#32) := by
  unfold expoOf Spec.expo
  rw [← rawExpoOf_apply]
  generalize rawExpoOf M = R
  pointwise

/-! ## `x`'s codes and scales -/

section
variable (X : Vec Ideal S3072x4736 .bf16)

theorem pay2_apply (r : Fin 3072) (g : Fin 37) (j : Fin 128) : k0_pay2 (F := Ideal) X (ix3 r g j) = Spec.grp (mat X r) g j := by
  unfold Spec.grp
  rw [mat_eq X r.isLt (by omega)]
  unfold k0_pay2
  pointwise
  exact congrArg (fun k => X (ix2 r k)) (Fin.ext (by show g.val * 128 + j.val = 128 * g.val + j.val; omega))

/-- The exponent of a group of `x`. -/
theorem pay3_apply (r : Fin 3072) (g : Fin 37) : k0_pay3 (F := Ideal) X (ix2 r g) = Spec.expo (Spec.quot (Spec.grp (mat X r) g)) := by
  have e : Spec.grp (mat X r) g = fun j => k0_pay2 (F := Ideal) X (ix3 r g j) := funext fun j => (pay2_apply X r g j).symm
  rw [e]
  unfold k0_pay3
  generalize k0_pay2 (F := Ideal) X = Y
  have h : multiReduction (F := Ideal) .maximumf [2] S3072x37 (absf Y) 0xFF800000#32 reduces_S3072x37x128_S3072x37 (.inl rfl) rfl (ix2 r g) = Spec.top fun j => Y (ix3 r g j) := by
    pointwise
    rfl
  unfold Spec.quot
  rw [← h]
  exact expoOf_apply (multiReduction (F := Ideal) .maximumf [2] S3072x37 (absf Y) 0xFF800000#32 reduces_S3072x37x128_S3072x37 (.inl rfl) rfl) (ix2 r g)

theorem pay4_apply (r : Fin 3072) (g : Fin 37) : k0_pay4 (F := Ideal) X (ix2 r g) = Spec.scales (mat X r) g := by
  unfold Spec.scales Spec.scale
  rw [← pay3_apply]
  rfl

theorem pay5_apply (r : Fin 3072) (c : Fin 4736) : k0_pay5 (F := Ideal) X (ix2 r c) = Spec.codes (mat X r) c := by
  unfold Spec.codes Spec.code Spec.inv
  rw [← pay3_apply X r ⟨c.val / 128, by omega⟩, ← pay2_apply X r ⟨c.val / 128, by omega⟩]
  unfold k0_pay5
  pointwise
  rfl

theorem pay6_apply (r : Fin 3072) (c : Fin 4736) : k0_pay6 (F := Ideal) X (ix2 r c) = Spec.widened (mat X r) c := by
  unfold Spec.widened
  rw [← pay5_apply, ← pay4_apply X r ⟨c.val / 128, by omega⟩]
  unfold k0_pay6
  pointwise

end

section
variable (X : Vec Ideal S3072x4736 .bf16) (G : Vec Ideal S4736x3584 .fp8e4m3) (S : Vec Ideal S37x28 .f32)

theorem pay7_apply (r : Fin 3072) (n : Fin 14) (j : Fin 128) :
    k0_pay7 (F := Ideal) G S (k0_pay6 X) (ix3 r n j) = Spec.grp (Spec.hidden (mat G) (mat S) (mat X r)) n j := by
  unfold Spec.grp Spec.hidden Spec.product
  have e : ∀ (f : ℕ) (hf : f < 3584) (d : Fin 4736), Spec.widened (mat X r) d * Spec.weights (mat G) (mat S) d f
      = k0_pay6 (F := Ideal) X (ix2 r d) * (G (ix2 d ⟨f, hf⟩) * S (ix2 ⟨d.val / 128, by omega⟩ ⟨f / 128, by omega⟩)) := by
    intro f hf d
    rw [← pay6_apply]
    unfold Spec.weights
    rw [mat_eq G d.isLt hf, mat_eq S (i := d.val / 128) (j := f / 128) (by omega) (by omega)]
  have p : ∀ (f : ℕ) (hf : f < 3584), (∑ d : Fin 4736, Spec.widened (mat X r) d * Spec.weights (mat G) (mat S) d f)
      = ∑ d : Fin 4736, k0_pay6 (F := Ideal) X (ix2 r d) * (G (ix2 d ⟨f, hf⟩) * S (ix2 ⟨d.val / 128, by omega⟩ ⟨f / 128, by omega⟩)) :=
    fun f hf => Finset.sum_congr rfl fun d _ => e f hf d
  rw [p (128 * n.val + j.val) (by omega), p (1792 + (128 * n.val + j.val)) (by omega)]
  unfold Spec.gated
  generalize k0_pay6 (F := Ideal) X = Y
  unfold k0_pay7
  pointwise
  have e0 : n.val * 128 = 128 * n.val := Nat.mul_comm _ _
  have e1 : (128 * n.val + j.val) / 128 * 128 + j.val = 128 * n.val + j.val := by omega
  have e2 : (1792 + (128 * n.val + j.val)) / 128 * 128 + j.val = 1792 + (128 * n.val + j.val) := by omega
  simp only [e0, e1, e2]

theorem pay8_apply (r : Fin 3072) (n : Fin 14) :
    k0_pay8 (F := Ideal) G S (k0_pay6 X) (ix2 r n) = Spec.expo (Spec.quot (Spec.grp (Spec.hidden (mat G) (mat S) (mat X r)) n)) := by
  have e : Spec.grp (Spec.hidden (mat G) (mat S) (mat X r)) n = fun j => k0_pay7 (F := Ideal) G S (k0_pay6 X) (ix3 r n j) := funext fun j => (pay7_apply X G S r n j).symm
  rw [e]
  unfold k0_pay8
  generalize k0_pay7 (F := Ideal) G S (k0_pay6 X) = Y
  have h : multiReduction (F := Ideal) .maximumf [2] S3072x14 (absf Y) 0xFF800000#32 reduces_S3072x14x128_S3072x14 (.inl rfl) rfl (ix2 r n) = Spec.top fun j => Y (ix3 r n j) := by
    pointwise
    rfl
  unfold Spec.quot
  rw [← h]
  exact expoOf_apply (multiReduction (F := Ideal) .maximumf [2] S3072x14 (absf Y) 0xFF800000#32 reduces_S3072x14x128_S3072x14 (.inl rfl) rfl) (ix2 r n)

theorem pay9_apply (r : Fin 3072) (n : Fin 14) : k0_pay9 (F := Ideal) G S (k0_pay6 X) (ix2 r n) = Spec.scales (Spec.hidden (mat G) (mat S) (mat X r)) n := by
  unfold Spec.scales Spec.scale
  rw [← pay8_apply]
  rfl

theorem pay1_apply (r : Fin 3072) (c : Fin 1792) :
    k0_pay1 (F := Ideal) (k0_pay7 G S (k0_pay6 X)) (k0_pay10 G S (k0_pay6 X)) (ix2 r c) = Spec.codes (Spec.hidden (mat G) (mat S) (mat X r)) c := by
  unfold Spec.codes Spec.code Spec.inv
  rw [← pay8_apply X G S r ⟨c.val / 128, by omega⟩, ← pay7_apply X G S r ⟨c.val / 128, by omega⟩]
  unfold k0_pay1 k0_pay10
  generalize k0_pay7 (F := Ideal) G S (k0_pay6 X) = Y
  generalize k0_pay8 (F := Ideal) G S (k0_pay6 X) = Z
  pointwise
  rfl

end

end Cert.ReferenceIdeal.Hand

end
-- ==== Proof.ReferenceRun.lean ====
/- What the reference leaves in its four results, over the extended reals: each row's codes and scales, as functions of the arrays
   the launch finds. -/
module

public import proofs.«01_k».proof.Proof.Gen.ReferenceIdeal.Frame
public import proofs.«01_k».proof.Proof.ReferenceValue
public import Idealize.ShloMosaic.Lib.Pipeline.ValueKit

@[expose] public section

set_option maxRecDepth 65536

noncomputable section

namespace Cert.ReferenceIdeal.Hand

open Idealize.ShloMosaic Idealize.ShloMosaic.TcCoe Idealize.ShloMosaic.Tactic Cert.ReferenceIdeal Cert.ReferenceIdeal.Gen
open Idealize.SL Idealize.SL.Sem
open Cert.Spec (mat mat_apply mat_eq)

variable (m : (ℓ : Loc nD τ sig) → Buf (Elt Ideal) ℓ) (ρ : Dev nD → PrngReg)

/-- The three arrays the launch finds: `x` as rows, the weights' codes, the weights' scales. -/
abbrev inX (c : Dev nD) : S3072x4736.Idx → EReal := V m c main_v0
abbrev inG (c : Dev nD) : S4736x3584.Idx → EReal := V m c main_arg1
abbrev inS (c : Dev nD) : S37x28.Idx → EReal := V m c main_arg2

/-- The single point reads each of them whole. -/
theorem iblk_0 (c : Dev nD) (t : Fin cfg0.N) : (iblk m c 0 t : S3072x4736.Idx → EReal) = inX m c := by
  have hi : ∀ t : Fin cfg0.N, win0_0.index t = ![0, 0] := by decide +kernel
  funext (y : S3072x4736.Idx)
  blk_ext [iblk, hi t]
theorem iblk_1 (c : Dev nD) (t : Fin cfg0.N) : (iblk m c 1 t : S4736x3584.Idx → EReal) = inG m c := by
  have hi : ∀ t : Fin cfg0.N, win0_1.index t = ![0, 0] := by decide +kernel
  funext (y : S4736x3584.Idx)
  blk_ext [iblk, hi t]
theorem iblk_2 (c : Dev nD) (t : Fin cfg0.N) : (iblk m c 2 t : S37x28.Idx → EReal) = inS m c := by
  have hi : ∀ t : Fin cfg0.N, win0_2.index t = ![0, 0] := by decide +kernel
  funext (y : S37x28.Idx)
  blk_ext [iblk, hi t]

/-! ## The body's stores -/

variable (X : S3072x4736.Idx → EReal) (G : S4736x3584.Idx → EReal) (S : S37x28.Idx → EReal)

theorem zero2 : (![0, 0] : Fin _ → Nat) = fun _ => 0 := funext fun a => by fin_cases a <;> rfl

theorem out_3 : out0_3 (F := Ideal) X G S = k0_pay1 (F := Ideal) (k0_pay7 G S (k0_pay6 X)) (k0_pay10 G S (k0_pay6 X)) := by
  unfold out0_3 k0_pay11
  rw [View.canon_unit_zero zero2, View.ld_unit_zero zero2, View.ld_unit_zero zero2, View.ld_unit_zero zero2]
theorem out_4 : out0_4 (F := Ideal) X G S = k0_pay9 (F := Ideal) G S (k0_pay6 X) := by
  unfold out0_4 k0_pay11
  rw [View.canon_unit_zero zero2, View.ld_unit_zero zero2, View.ld_unit_zero zero2, View.ld_unit_zero zero2]
theorem out_5 : out0_5 (F := Ideal) X G S = k0_pay5 (F := Ideal) X := by
  unfold out0_5
  rw [View.canon_unit_zero zero2, View.ld_unit_zero zero2]
theorem out_6 : out0_6 (F := Ideal) X G S = k0_pay4 (F := Ideal) X := by
  unfold out0_6
  rw [View.canon_unit_zero zero2, View.ld_unit_zero zero2]

/-! ## The four results -/

/-- What each result holds: the hidden rows' codes and scales, and the codes and scales of the rows of `x`. -/
abbrev outH (c : Dev nD) : S3072x1792.Idx → EReal := fun i => Spec.codes (Spec.hidden (mat (inG m c)) (mat (inS m c)) (mat (inX m c) (i 0).val)) (i 1).val
abbrev outHS (c : Dev nD) : S3072x14.Idx → EReal := fun i => Spec.scales (Spec.hidden (mat (inG m c)) (mat (inS m c)) (mat (inX m c) (i 0).val)) (i 1).val
abbrev outX (c : Dev nD) : S3072x4736.Idx → EReal := fun i => Spec.codes (mat (inX m c) (i 0).val) (i 1).val
abbrev outXS (c : Dev nD) : S3072x37.Idx → EReal := fun i => Spec.scales (mat (inX m c) (i 0).val) (i 1).val

/-- The first result: the single point writes it whole. -/
theorem final_3 (c : Dev nD) : (dats m 0 c).arrAt 3 cfg0.N = outH m c := by
  have hi : ∀ t : Fin cfg0.N, win0_3.index t = ![0, 0] := by decide +kernel
  refine (dats m 0 c).arrAt_eq_of_covers 3 _ (by decide +kernel) fun t hf (y : S3072x1792.Idx) => ?_
  unfold outH
  blk_simp [hi t]
  rw [after0_3, iblk_0, iblk_1, iblk_2, out_3]
  exact (congrArg _ (eq_ix2 y)).trans (pay1_apply (inX m c) (inG m c) (inS m c) (y 0) (y 1))

/-- The second. -/
theorem final_4 (c : Dev nD) : (dats m 0 c).arrAt 4 cfg0.N = outHS m c := by
  have hi : ∀ t : Fin cfg0.N, win0_4.index t = ![0, 0] := by decide +kernel
  refine (dats m 0 c).arrAt_eq_of_covers 4 _ (by decide +kernel) fun t hf (y : S3072x14.Idx) => ?_
  unfold outHS
  blk_simp [hi t]
  rw [after0_4, iblk_0, iblk_1, iblk_2, out_4]
  exact (congrArg _ (eq_ix2 y)).trans (pay9_apply (inX m c) (inG m c) (inS m c) (y 0) (y 1))

/-- The third. -/
theorem final_5 (c : Dev nD) : (dats m 0 c).arrAt 5 cfg0.N = outX m c := by
  have hi : ∀ t : Fin cfg0.N, win0_5.index t = ![0, 0] := by decide +kernel
  refine (dats m 0 c).arrAt_eq_of_covers 5 _ (by decide +kernel) fun t hf (y : S3072x4736.Idx) => ?_
  unfold outX
  blk_simp [hi t]
  rw [after0_5, iblk_0, iblk_1, iblk_2, out_5]
  exact (congrArg _ (eq_ix2 y)).trans (pay5_apply (inX m c) (y 0) (y 1))

/-- The fourth. -/
theorem final_6 (c : Dev nD) : (dats m 0 c).arrAt 6 cfg0.N = outXS m c := by
  have hi : ∀ t : Fin cfg0.N, win0_6.index t = ![0, 0] := by decide +kernel
  refine (dats m 0 c).arrAt_eq_of_covers 6 _ (by decide +kernel) fun t hf (y : S3072x37.Idx) => ?_
  unfold outXS
  blk_simp [hi t]
  rw [after0_6, iblk_0, iblk_1, iblk_2, out_6]
  exact (congrArg _ (eq_ix2 y)).trans (pay4_apply (inX m c) (y 0) (y 1))

/-- Every execution of @main ends with the four results at these values and the arguments as launched. -/
theorem run_value : θ_run (defs (F := Ideal)) (onTc (τ := τ) (main (F := Ideal))) ⟨m, fun _ => 0, ρ⟩ (fun r => ∀ c : Dev nD,
      r.2.mem ((c.tc : Thread nD τ).loc main_v1_0) = outH m c
      ∧ r.2.mem ((c.tc : Thread nD τ).loc main_v1_1) = outHS m c
      ∧ r.2.mem ((c.tc : Thread nD τ).loc main_v1_2) = outX m c
      ∧ r.2.mem ((c.tc : Thread nD τ).loc main_v1_3) = outXS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c),
      ((h.1 c).1 5).trans (final_5 m c), ((h.1 c).1 6).trans (final_6 m c), h.2 c⟩)
    (θ_run_and (run_main m ρ) (unchanged m ρ))

end Cert.ReferenceIdeal.Hand

end
-- ==== Proof.Agree.lean ====
/- The two programs' results agree, over the extended reals: from equal arguments the launches find equal arrays, and both leave the
   same rows' codes and scales. -/
module

public import proofs.«01_k».proof.Defs
public import proofs.«01_k».proof.Proof.KernelRun
public import proofs.«01_k».proof.Proof.ReferenceRun
public import Idealize.ShloMosaic.Lib.Claim

@[expose] public section

set_option maxRecDepth 65536

noncomputable section

namespace Cert.Hand

open Idealize.ShloMosaic Idealize.ShloMosaic.TcCoe Idealize.ShloMosaic.Tactic
open Idealize.SL Idealize.SL.Sem

/-- `x` laid out as rows. -/
def rows (x : (⟨3, ![3, 1024, 4736]⟩ : Shape).Idx → EReal) : (⟨2, ![3072, 4736]⟩ : Shape).Idx → EReal := shapeCast _ x

/-- The kernel's launch finds the argument `x` laid out as rows, -/
theorem kernel_inX (m : (ℓ : Loc KernelIdeal.nD KernelIdeal.τ KernelIdeal.sig) → Buf (Elt Ideal) ℓ) (c : Dev KernelIdeal.nD) :
    KernelIdeal.Hand.inX m c = rows (m ((c.tc : Thread KernelIdeal.nD KernelIdeal.τ).loc KernelIdeal.main_arg0)) := by
  unfold KernelIdeal.Hand.inX
  entry_read
  rfl
/-- and so does the reference's. -/
theorem reference_inX (m : (ℓ : Loc ReferenceIdeal.nD ReferenceIdeal.τ ReferenceIdeal.sig) → Buf (Elt Ideal) ℓ) (c : Dev ReferenceIdeal.nD) :
    ReferenceIdeal.Hand.inX m c = rows (m ((c.tc : Thread ReferenceIdeal.nD ReferenceIdeal.τ).loc ReferenceIdeal.main_arg0)) := by
  unfold ReferenceIdeal.Hand.inX
  entry_read
  rfl

/-- The kernel and the reference, from memories that agree on the arguments, both run and end with equal results, their arguments
    as launched. -/
theorem algebraic [hK : KernelIdeal.Facts] [hR : ReferenceIdeal.Facts] : algebraic_KernelIdeal_ReferenceIdeal := by
  intro m g m' g' _ h
  refine ⟨KernelIdeal.Hand.outH m, KernelIdeal.Hand.outHS m, KernelIdeal.Hand.outX m, KernelIdeal.Hand.outXS m,
    KernelIdeal.Hand.run_value m g, (θ_run ReferenceIdeal.defs _ _).mono (fun r hr c => ?_) (ReferenceIdeal.Hand.run_value m' g')⟩
  have hx : ReferenceIdeal.Hand.inX m' c = KernelIdeal.Hand.inX m c :=
    (reference_inX m' c).trans ((congrArg rows (h c).1).trans (kernel_inX m c).symm)
  have hG : ReferenceIdeal.Hand.inG m' c = KernelIdeal.Hand.inG m c :=
    (ReferenceIdeal.Gen.V_main_arg1 m' c).trans ((h c).2.1.trans (KernelIdeal.Gen.V_main_arg1 m c).symm)
  have hS : ReferenceIdeal.Hand.inS m' c = KernelIdeal.Hand.inS m c :=
    (ReferenceIdeal.Gen.V_main_arg2 m' c).trans ((h c).2.2.trans (KernelIdeal.Gen.V_main_arg2 m c).symm)
  obtain ⟨h0, h1, h2, h3, ha⟩ := hr c
  refine ⟨h0.trans ?_, h1.trans ?_, h2.trans ?_, h3.trans ?_, ha⟩
  · unfold ReferenceIdeal.Hand.outH
    rw [hx, hG, hS]
  · unfold ReferenceIdeal.Hand.outHS
    rw [hx, hG, hS]
  · unfold ReferenceIdeal.Hand.outX
    rw [hx]
  · unfold ReferenceIdeal.Hand.outXS
    rw [hx]

end Cert.Hand

end
-- ==== Proof.lean ====
/- The proof of the claims about the kernel, its idealization and the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Twin
public import proofs.«01_k».proof.Proof.Agree

@[expose] public section

noncomputable section

namespace Cert.Proof

open Idealize.ShloMosaic Idealize.SL.Sem

/-- Kernel, idealization and reference run, leave their arguments and end quiescent; the idealization is the kernel's text; and the
    kernel's results are the reference's, over the extended reals. -/
theorem claim : Cert.Claim := ⟨Cert.Kernel.Gen.facts, Cert.KernelIdeal.Gen.facts, Cert.ReferenceIdeal.Gen.facts,
  Cert.KernelIdeal.Hand.quiescent,
  fun m g _ => Cert.KernelIdeal.Hand.frame m g,
  fun m g _ => Cert.ReferenceIdeal.Gen.frame m g,
  trivial,
  Cert.Hand.algebraic⟩

end Cert.Proof

end
